-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_quant_pre [hPre_quant_pre : Cert.Pre_quant_pre.Facts] (m : (ℓ : Loc Cert.QuantIdeal.nD Cert.QuantIdeal.τ Cert.QuantIdeal.sig) → Buf (Elt Ideal) ℓ) : Prop :=
  ∀ c : Dev Cert.QuantIdeal.nD,
    (Cert.Pre_quant_pre.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1))).1 = (fun _ => 1#1)
    ∧ (Cert.Pre_quant_pre.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1))).2 = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_quant_pre [hPre_quant_pre : Cert.Pre_quant_pre.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_quant_pre.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))).1 = (fun _ => 1#1)
    ∧ (Cert.Pre_quant_pre.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantIdeal_pre_quant_pre [hQuantIdeal : Cert.QuantIdeal.Facts] [hPre_quant_pre : Cert.Pre_quant_pre.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_quant_pre m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def quiescent_QuantReferenceIdeal_pre_quant_pre [hQuantReferenceIdeal : Cert.QuantReferenceIdeal.Facts] [hPre_quant_pre : Cert.Pre_quant_pre.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_quant_pre m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quant_QuantIdeal : Prop :=
  True

def algebraic_QuantIdeal_QuantReferenceIdeal_pre_quant_pre [hQuantIdeal : Cert.QuantIdeal.Facts] [hQuantReferenceIdeal : Cert.QuantReferenceIdeal.Facts] [hPre_quant_pre : Cert.Pre_quant_pre.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_quant_pre m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)) (v2 : (c : Dev Cert.QuantIdeal.nD) → Buf (Elt Ideal) ((c.tc : Thread Cert.QuantIdeal.nD Cert.QuantIdeal.τ).loc Cert.QuantIdeal.main_v0_2)) (v3 : (c : Dev Cert.QuantIdeal.nD) → Buf (Elt Ideal) ((c.tc : Thread Cert.QuantIdeal.nD Cert.QuantIdeal.τ).loc Cert.QuantIdeal.main_v0_3)) (v4 : (c : Dev Cert.QuantIdeal.nD) → Buf (Elt Ideal) ((c.tc : Thread Cert.QuantIdeal.nD Cert.QuantIdeal.τ).loc Cert.QuantIdeal.main_v0_4)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_v0_2) = v2 c
          ∧ r.2.mem ((c.tc : Thread Cert.QuantIdeal.nD Cert.QuantIdeal.τ).loc Cert.QuantIdeal.main_v0_3) = v3 c
          ∧ r.2.mem ((c.tc : Thread Cert.QuantIdeal.nD Cert.QuantIdeal.τ).loc Cert.QuantIdeal.main_v0_4) = v4 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_v0_2) = v2 c
          ∧ r.2.mem ((c.tc : Thread Cert.QuantReferenceIdeal.nD Cert.QuantReferenceIdeal.τ).loc Cert.QuantReferenceIdeal.main_v0_3) = v3 c
          ∧ r.2.mem ((c.tc : Thread Cert.QuantReferenceIdeal.nD Cert.QuantReferenceIdeal.τ).loc Cert.QuantReferenceIdeal.main_v0_4) = v4 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hPre_pre : Cert.Pre_pre.Facts) (hPre_quant_pre : Cert.Pre_quant_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Quant (hQuant := hQuant)
    ∧ quiescent_QuantIdeal (hQuantIdeal := hQuantIdeal)
    ∧ quiescent_QuantIdeal_pre_quant_pre (hQuantIdeal := hQuantIdeal) (hPre_quant_pre := hPre_quant_pre)
    ∧ quiescent_QuantReferenceIdeal (hQuantReferenceIdeal := hQuantReferenceIdeal)
    ∧ quiescent_QuantReferenceIdeal_pre_quant_pre (hQuantReferenceIdeal := hQuantReferenceIdeal) (hPre_quant_pre := hPre_quant_pre)
    ∧ preserves_Kernel_KernelIdeal
    ∧ algebraic_KernelIdeal_ReferenceIdeal_pre_pre (hKernelIdeal := hKernelIdeal) (hReferenceIdeal := hReferenceIdeal) (hPre_pre := hPre_pre)
    ∧ preserves_Quant_QuantIdeal
    ∧ algebraic_QuantIdeal_QuantReferenceIdeal_pre_quant_pre (hQuantIdeal := hQuantIdeal) (hQuantReferenceIdeal := hQuantReferenceIdeal) (hPre_quant_pre := hPre_quant_pre)
-- ==== Pre_pre.lean ====
abbrev S8x4096x4096 : Shape := ⟨3, ![8, 4096, 4096]⟩
abbrev S8x4096x1024 : Shape := ⟨3, ![8, 4096, 1024]⟩
abbrev S8x8x128x4096 : Shape := ⟨4, ![8, 8, 128, 4096]⟩
abbrev S8x8x32x128 : Shape := ⟨4, ![8, 8, 32, 128]⟩
abbrev S8x8x32x1 : Shape := ⟨4, ![8, 8, 32, 1]⟩
abbrev S_ : Shape := ⟨0, ![]⟩

class Facts : Prop where
  bitsLt_bf16_f32 : FTy.bits .bf16 < FTy.bits .f32
  slices_S8x8x32x128_S8x8x32x1_0_0_0_0 : S8x8x32x128.Slices ![0, 0, 0, 0] S8x8x32x1
  bcast_S8x8x32x1_S8x8x32x128_0_1_2_3 : S8x8x32x1.BroadcastsInDim S8x8x32x128 (![0, 1, 2, 3] : Fin 4 → Fin S8x8x32x128.rank)
  bcast_S_S8x4096x4096 : S_.BroadcastsInDim S8x4096x4096 (![] : Fin 0 → Fin S8x4096x4096.rank)
  bcast_S_S8x8x32x128 : S_.BroadcastsInDim S8x8x32x128 (![] : Fin 0 → Fin S8x8x32x128.rank)

variable [Facts]

def fn {F : FTy → Type} [FloatOps F] (main_arg0 : FVec F S8x4096x4096 .bf16) (main_arg1 : FVec F S8x4096x1024 .fp8e4m3) (main_arg2 : FVec F S8x8x128x4096 .fp8e4m3) (main_arg3 : FVec F S8x8x32x128 .f32) (main_arg4 : FVec F S8x8x32x128 .f32) : IVec S8x4096x4096 1 × IVec S8x8x32x128 1 × IVec S8x8x32x128 1 :=
  let main_v0 : FVec F S8x4096x4096 .f32 := (extf .f32 · bitsLt_bf16_f32) main_arg0
  let main_v1 : FVec F S8x8x32x1 .f32 := (extractStridedSlice S8x8x32x1 ![0, 0, 0, 0] · slices_S8x8x32x128_S8x8x32x1_0_0_0_0) main_arg3
  let main_v2 : FVec F S8x8x32x128 .f32 := broadcastInDim S8x8x32x128 ![0, 1, 2, 3] bcast_S8x8x32x1_S8x8x32x128_0_1_2_3 main_v1
  let main_v3 : FVec F S8x4096x4096 .f32 := Host.absf main_v0
  let main_cst : FVec F S_ .f32 := constant S_ .f32 0x7F7F0000#32
  let main_v4 : FVec F S8x4096x4096 .f32 := broadcastInDim S8x4096x4096 ![] bcast_S_S8x4096x4096 main_cst
  let main_v5 : IVec S8x4096x4096 1 := cmpf .ole main_v3 main_v4
  let main_v6 : IVec S8x8x32x128 1 := cmpf .oeq main_arg3 main_v2
  let main_cst_0 : FVec F S_ .f32 := constant S_ .f32 0x00000000#32
  let main_v7 : FVec F S8x8x32x128 .f32 := broadcastInDim S8x8x32x128 ![] bcast_S_S8x8x32x128 main_cst_0
  let main_v8 : IVec S8x8x32x128 1 := cmpf .oge main_arg3 main_v7
  (main_v5, main_v6, main_v8)
-- ==== Pre_quant_pre.lean ====
abbrev S8x4096x1024 : Shape := ⟨3, ![8, 4096, 1024]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)

variable [Facts]

def fn {F : FTy → Type} [FloatOps F] (main_arg0 : FVec F S8x4096x1024 .bf16) (main_arg1 : FVec F S8x4096x1024 .bf16) : IVec S8x4096x1024 1 × IVec S8x4096x1024 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F7F0000#32
  let main_v2 : FVec F S8x4096x1024 .f32 := broadcastInDim S8x4096x1024 ![] bcast_S_S8x4096x1024 main_cst
  let main_v3 : IVec S8x4096x1024 1 := cmpf .ole main_v1 main_v2
  let main_v4 : FVec F S8x4096x1024 .f32 := (extf .f32 · bitsLt_bf16_f32) main_arg1
  let main_v5 : FVec F S8x4096x1024 .f32 := Host.absf main_v4
  let main_cst_0 : FVec F S_ .f32 := constant S_ .f32 0x7F7F0000#32
  let main_v6 : FVec F S8x4096x1024 .f32 := broadcastInDim S8x4096x1024 ![] bcast_S_S8x4096x1024 main_cst_0
  let main_v7 : IVec S8x4096x1024 1 := cmpf .ole main_v5 main_v6
  (main_v3, main_v7)
-- ==== Kernel.lean ====
abbrev S8x4096x4096 : Shape := ⟨3, ![8, 4096, 4096]⟩
abbrev S8x4096x1024 : Shape := ⟨3, ![8, 4096, 1024]⟩
abbrev S8x8x128x4096 : Shape := ⟨4, ![8, 8, 128, 4096]⟩
abbrev S8x8x32x128 : Shape := ⟨4, ![8, 8, 32, 128]⟩
abbrev S8x8x32x4x128 : Shape := ⟨5, ![8, 8, 32, 4, 128]⟩
abbrev S1x128x512 : Shape := ⟨3, ![1, 128, 512]⟩
abbrev S1x4096x128 : Shape := ⟨3, ![1, 4096, 128]⟩
abbrev S1x1x128x4096 : Shape := ⟨4, ![1, 1, 128, 4096]⟩
abbrev S1x1x32x128 : Shape := ⟨4, ![1, 1, 32, 128]⟩
abbrev S1x1x1x4x128 : Shape := ⟨5, ![1, 1, 1, 4, 128]⟩
abbrev S512x128 : Shape := ⟨2, ![512, 128]⟩
abbrev S32x512 : Shape := ⟨2, ![32, 512]⟩
abbrev S4096x512 : Shape := ⟨2, ![4096, 512]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩
abbrev S1x1 : Shape := ⟨2, ![1, 1]⟩
abbrev S255x1 : Shape := ⟨2, ![255, 1]⟩
abbrev S1x128 : Shape := ⟨2, ![1, 128]⟩
abbrev S1x1x1x1x128 : Shape := ⟨5, ![1, 1, 1, 1, 128]⟩
abbrev S32x128 : Shape := ⟨2, ![32, 128]⟩
abbrev S8x512 : Shape := ⟨2, ![8, 512]⟩
abbrev S128x512 : Shape := ⟨2, ![128, 512]⟩
abbrev S16x8x512 : Shape := ⟨3, ![16, 8, 512]⟩
abbrev S1x512 : Shape := ⟨2, ![1, 512]⟩
abbrev S512 : Shape := ⟨1, ![512]⟩
abbrev S255x512 : Shape := ⟨2, ![255, 512]⟩
abbrev S1x1x128x128 : Shape := ⟨4, ![1, 1, 128, 128]⟩
abbrev S1x1x1x1 : Shape := ⟨4, ![1, 1, 1, 1]⟩

abbrev nBuf : Space → Nat
  | .hbm => 8
  | .vmem => 20
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x1024, .fp8e4m3⟩
  | .hbm, ⟨2, _⟩ => ⟨S8x8x128x4096, .fp8e4m3⟩
  | .hbm, ⟨3, _⟩ => ⟨S8x8x32x128, .f32⟩
  | .hbm, ⟨4, _⟩ => ⟨S8x8x32x128, .f32⟩
  | .hbm, ⟨5, _⟩ => ⟨S8x4096x4096, .bf16⟩
  | .hbm, ⟨6, _⟩ => ⟨S8x4096x4096, .fp8e4m3⟩
  | .hbm, ⟨7, _⟩ => ⟨S8x8x32x4x128, .f32⟩
  | .local _ .vmem, ⟨0, _⟩ => ⟨S1x128x512, .bf16⟩
  | .local _ .vmem, ⟨1, _⟩ => ⟨S1x128x512, .bf16⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x1x128x4096, .fp8e4m3⟩
  | .local _ .vmem, ⟨5, _⟩ => ⟨S1x1x128x4096, .fp8e4m3⟩
  | .local _ .vmem, ⟨6, _⟩ => ⟨S1x1x32x128, .f32⟩
  | .local _ .vmem, ⟨7, _⟩ => ⟨S1x1x32x128, .f32⟩
  | .local _ .vmem, ⟨8, _⟩ => ⟨S1x1x32x128, .f32⟩
  | .local _ .vmem, ⟨9, _⟩ => ⟨S1x1x32x128, .f32⟩
  | .local _ .vmem, ⟨10, _⟩ => ⟨S1x128x512, .bf16⟩
  | .local _ .vmem, ⟨11, _⟩ => ⟨S1x128x512, .bf16⟩
  | .local _ .vmem, ⟨12, _⟩ => ⟨S1x128x512, .fp8e4m3⟩
  | .local _ .vmem, ⟨13, _⟩ => ⟨S1x128x512, .fp8e4m3⟩
  | .local _ .vmem, ⟨14, _⟩ => ⟨S1x1x1x4x128, .f32⟩
  | .local _ .vmem, ⟨15, _⟩ => ⟨S1x1x1x4x128, .f32⟩
  | .local _ .vmem, ⟨16, _⟩ => ⟨S512x128, .fp8e4m3⟩
  | .local _ .vmem, ⟨17, _⟩ => ⟨S32x512, .f32⟩
  | .local _ .vmem, ⟨18, _⟩ => ⟨S4096x512, .f32⟩
  | .local _ .vmem, ⟨19, _⟩ => ⟨S4096x512, .fp8e4m3⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x4096 : Shape := ⟨3, ![8, 4096, 4096]⟩
abbrev S8x4096x1024 : Shape := ⟨3, ![8, 4096, 1024]⟩
abbrev S8x8x128x4096 : Shape := ⟨4, ![8, 8, 128, 4096]⟩
abbrev S8x8x32x128 : Shape := ⟨4, ![8, 8, 32, 128]⟩
abbrev S8x8x32x4x128 : Shape := ⟨5, ![8, 8, 32, 4, 128]⟩
abbrev S8x32x128x8x4x128 : Shape := ⟨6, ![8, 32, 128, 8, 4, 128]⟩
abbrev S8x32x8x4 : Shape := ⟨4, ![8, 32, 8, 4]⟩
abbrev S8x32x1x8x4x1 : Shape := ⟨6, ![8, 32, 1, 8, 4, 1]⟩
abbrev S8x8x32x4 : Shape := ⟨4, ![8, 8, 32, 4]⟩
abbrev S8x8x32x4x1 : Shape := ⟨5, ![8, 8, 32, 4, 1]⟩
abbrev S8x8x4x32x128x128 : Shape := ⟨6, ![8, 8, 4, 32, 128, 128]⟩
abbrev S64x16384x128 : Shape := ⟨3, ![64, 16384, 128]⟩
abbrev S8x4096x8x128 : Shape := ⟨4, ![8, 4096, 8, 128]⟩
abbrev S8x8x4096x128 : Shape := ⟨4, ![8, 8, 4096, 128]⟩
abbrev S64x4096x128 : Shape := ⟨3, ![64, 4096, 128]⟩
abbrev S64x16384x4096 : Shape := ⟨3, ![64, 16384, 4096]⟩
abbrev S8x8x4x32 : Shape := ⟨4, ![8, 8, 4, 32]⟩
abbrev S64x128x1 : Shape := ⟨3, ![64, 128, 1]⟩
abbrev S64x128x128 : Shape := ⟨3, ![64, 128, 128]⟩
abbrev S64x16384x1 : Shape := ⟨3, ![64, 16384, 1]⟩
abbrev S8x8x32x1 : Shape := ⟨4, ![8, 8, 32, 1]⟩
abbrev S64x32x1 : Shape := ⟨3, ![64, 32, 1]⟩
abbrev S64x32x128 : Shape := ⟨3, ![64, 32, 128]⟩
abbrev S64x1x4096 : Shape := ⟨3, ![64, 1, 4096]⟩
abbrev S64x16384 : Shape := ⟨2, ![64, 16384]⟩
abbrev S64x16384x32x128 : Shape := ⟨4, ![64, 16384, 32, 128]⟩
abbrev S64x32x16384x128 : Shape := ⟨4, ![64, 32, 16384, 128]⟩
abbrev S2048x16384x128 : Shape := ⟨3, ![2048, 16384, 128]⟩
abbrev S64x128x32x128 : Shape := ⟨4, ![64, 128, 32, 128]⟩
abbrev S64x32x128x128 : Shape := ⟨4, ![64, 32, 128, 128]⟩
abbrev S2048x128x128 : Shape := ⟨3, ![2048, 128, 128]⟩
abbrev S64x32x1x1 : Shape := ⟨4, ![64, 32, 1, 1]⟩
abbrev S8x8x4x4096x128 : Shape := ⟨5, ![8, 8, 4, 4096, 128]⟩
abbrev S8x4096x8x4x128 : Shape := ⟨5, ![8, 4096, 8, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x1024, .fp8e4m3⟩
  | .hbm, ⟨2, _⟩ => ⟨S8x8x128x4096, .fp8e4m3⟩
  | .hbm, ⟨3, _⟩ => ⟨S8x8x32x128, .f32⟩
  | .hbm, ⟨4, _⟩ => ⟨S8x8x32x128, .f32⟩
  | .hbm, ⟨5, _⟩ => ⟨S8x4096x4096, .bf16⟩
  | .hbm, ⟨6, _⟩ => ⟨S8x4096x4096, .fp8e4m3⟩
  | .hbm, ⟨7, _⟩ => ⟨S8x8x32x4x128, .f32⟩
  | .local _ .vmem, ⟨0, _⟩ => ⟨S8x4096x4096, .bf16⟩
  | .local _ .vmem, ⟨1, _⟩ => ⟨S8x4096x1024, .fp8e4m3⟩
  | .local _ .vmem, ⟨2, _⟩ => ⟨S8x8x128x4096, .fp8e4m3⟩
  | .local _ .vmem, ⟨3, _⟩ => ⟨S8x8x32x128, .f32⟩
  | .local _ .vmem, ⟨4, _⟩ => ⟨S8x8x32x128, .f32⟩
  | .local _ .vmem, ⟨5, _⟩ => ⟨S8x4096x4096, .bf16⟩
  | .local _ .vmem, ⟨6, _⟩ => ⟨S8x4096x4096, .fp8e4m3⟩
  | .local _ .vmem, ⟨7, _⟩ => ⟨S8x8x32x4x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x128x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8x32x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S8x4096x1024 : Shape := ⟨3, ![8, 4096, 1024]⟩
abbrev S8x8x128x4096 : Shape := ⟨4, ![8, 8, 128, 4096]⟩
abbrev S8x8x32x128 : Shape := ⟨4, ![8, 8, 32, 128]⟩
abbrev S1x512x1024 : Shape := ⟨3, ![1, 512, 1024]⟩
abbrev S1x8x128x512 : Shape := ⟨4, ![1, 8, 128, 512]⟩
abbrev S1x8x32x128 : Shape := ⟨4, ![1, 8, 32, 128]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩
abbrev S1x1 : Shape := ⟨2, ![1, 1]⟩
abbrev S255x1 : Shape := ⟨2, ![255, 1]⟩
abbrev S1x128 : Shape := ⟨2, ![1, 128]⟩
abbrev S1x1x1x128 : Shape := ⟨4, ![1, 1, 1, 128]⟩
abbrev S1x1x128x128 : Shape := ⟨4, ![1, 1, 128, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .fp8e4m3⟩
  | .hbm, ⟨3, _⟩ => ⟨S8x4096x1024, .fp8e4m3⟩
  | .hbm, ⟨4, _⟩ => ⟨S8x8x128x4096, .fp8e4m3⟩
  | .hbm, ⟨5, _⟩ => ⟨S8x8x32x128, .f32⟩
  | .hbm, ⟨6, _⟩ => ⟨S8x8x32x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .fp8e4m3⟩
  | .local _ .vmem, ⟨5, _⟩ => ⟨S1x512x1024, .fp8e4m3⟩
  | .local _ .vmem, ⟨6, _⟩ => ⟨S1x512x1024, .fp8e4m3⟩
  | .local _ .vmem, ⟨7, _⟩ => ⟨S1x512x1024, .fp8e4m3⟩
  | .local _ .vmem, ⟨8, _⟩ => ⟨S1x8x128x512, .fp8e4m3⟩
  | .local _ .vmem, ⟨9, _⟩ => ⟨S1x8x128x512, .fp8e4m3⟩
  | .local _ .vmem, ⟨10, _⟩ => ⟨S1x8x32x128, .f32⟩
  | .local _ .vmem, ⟨11, _⟩ => ⟨S1x8x32x128, .f32⟩
  | .local _ .vmem, ⟨12, _⟩ => ⟨S1x8x32x128, .f32⟩
  | .local _ .vmem, ⟨13, _⟩ => ⟨S1x8x32x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_off1 (i : grid0.Coords) (c0_i32_16 : BitVec 32) : Fin 4 → Nat :=
  let c0_17 : Index := 0#32
  let c0_18 : Index := 0#32
  let arg1 : BitVec 32 := BitVec.ofNat 32 (i 1).val
  let c4_i32 : BitVec 32 := 4#32
  let v56 : BitVec 32 := Scalar.muli arg1 c4_i32
  let v57 : BitVec 32 := Scalar.addi v56 c0_i32_16
  let v58 : Index := Scalar.indexCast v57
  let c0_19 : Index := 0#32
  ![0, 0, v58.toNat, 0]
def k0_off2 (i : grid0.Coords) (c0_i32_251 : BitVec 32) : Fin 4 → Nat :=
  let c0_252 : Index := 0#32
  let c1 : Index := 1#32
  let arg1 : BitVec 32 := BitVec.ofNat 32 (i 1).val
  let c4_i32_250 : BitVec 32 := 4#32
  let v572 : BitVec 32 := Scalar.muli arg1 c4_i32_250
  let v573 : BitVec 32 := Scalar.addi v572 c0_i32_251
  let v574 : Index := Scalar.indexCast v573
  let c0_253 : Index := 0#32
  ![0, 1, v574.toNat, 0]
def k0_off3 (i : grid0.Coords) (c0_i32_490 : BitVec 32) : Fin 4 → Nat :=
  let c0_491 : Index := 0#32
  let c2 : Index := 2#32
  let arg1 : BitVec 32 := BitVec.ofNat 32 (i 1).val
  let c4_i32_489 : BitVec 32 := 4#32
  let v1088 : BitVec 32 := Scalar.muli arg1 c4_i32_489
  let v1089 : BitVec 32 := Scalar.addi v1088 c0_i32_490
  let v1090 : Index := Scalar.indexCast v1089
  let c0_492 : Index := 0#32
  ![0, 2, v1090.toNat, 0]
def k0_off4 (i : grid0.Coords) (c0_i32_729 : BitVec 32) : Fin 4 → Nat :=
  let c0_730 : Index := 0#32
  let c3 : Index := 3#32
  let arg1 : BitVec 32 := BitVec.ofNat 32 (i 1).val
  let c4_i32_728 : BitVec 32 := 4#32
  let v1604 : BitVec 32 := Scalar.muli arg1 c4_i32_728
  let v1605 : BitVec 32 := Scalar.addi v1604 c0_i32_729
  let v1606 : Index := Scalar.indexCast v1605
  let c0_731 : Index := 0#32
  ![0, 3, v1606.toNat, 0]
def k0_off5 (i : grid0.Coords) (c0_i32_967 : BitVec 32) : Fin 4 → Nat :=
  let c0_968 : Index := 0#32
  let c4 : Index := 4#32
  let arg1 : BitVec 32 := BitVec.ofNat 32 (i 1).val
  let c4_i32_966 : BitVec 32 := 4#32
  let v2120 : BitVec 32 := Scalar.muli arg1 c4_i32_966
  let v2121 : BitVec 32 := Scalar.addi v2120 c0_i32_967
  let v2122 : Index := Scalar.indexCast v2121
  let c0_969 : Index := 0#32
  ![0, 4, v2122.toNat, 0]
def k0_off6 (i : grid0.Coords) (c0_i32_1205 : BitVec 32) : Fin 4 → Nat :=
  let c0_1206 : Index := 0#32
  let c5 : Index := 5#32
  let arg1 : BitVec 32 := BitVec.ofNat 32 (i 1).val
  let c4_i32_1204 : BitVec 32 := 4#32
  let v2636 : BitVec 32 := Scalar.muli arg1 c4_i32_1204
  let v2637 : BitVec 32 := Scalar.addi v2636 c0_i32_1205
  let v2638 : Index := Scalar.indexCast v2637
  let c0_1207 : Index := 0#32
  ![0, 5, v2638.toNat, 0]
def k0_off7 (i : grid0.Coords) (c0_i32_1443 : BitVec 32) : Fin 4 → Nat :=
  let c0_1444 : Index := 0#32
  let c6 : Index := 6#32
  let arg1 : BitVec 32 := BitVec.ofNat 32 (i 1).val
  let c4_i32_1442 : BitVec 32 := 4#32
  let v3152 : BitVec 32 := Scalar.muli arg1 c4_i32_1442
  let v3153 : BitVec 32 := Scalar.addi v3152 c0_i32_1443
  let v3154 : Index := Scalar.indexCast v3153
  let c0_1445 : Index := 0#32
  ![0, 6, v3154.toNat, 0]
def k0_off8 (i : grid0.Coords) (c0_i32_1681 : BitVec 32) : Fin 4 → Nat :=
  let c0_1682 : Index := 0#32
  let c7 : Index := 7#32
  let arg1 : BitVec 32 := BitVec.ofNat 32 (i 1).val
  let c4_i32_1680 : BitVec 32 := 4#32
  let v3668 : BitVec 32 := Scalar.muli arg1 c4_i32_1680
  let v3669 : BitVec 32 := Scalar.addi v3668 c0_i32_1681
  let v3670 : Index := Scalar.indexCast v3669
  let c0_1683 : Index := 0#32
  ![0, 7, v3670.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QuantReferenceIdeal.lean ====
abbrev S8x4096x1024 : Shape := ⟨3, ![8, 4096, 1024]⟩
abbrev S8x8x128x4096 : Shape := ⟨4, ![8, 8, 128, 4096]⟩
abbrev S8x8x32x128 : Shape := ⟨4, ![8, 8, 32, 128]⟩
abbrev S8x32x128x8x1x128 : Shape := ⟨6, ![8, 32, 128, 8, 1, 128]⟩
abbrev S8x32x8x1 : Shape := ⟨4, ![8, 32, 8, 1]⟩
abbrev S8x32x1x8x1x1 : Shape := ⟨6, ![8, 32, 1, 8, 1, 1]⟩
abbrev S8x4096x8x128 : Shape := ⟨4, ![8, 4096, 8, 128]⟩
abbrev S8x32x8 : Shape := ⟨3, ![8, 32, 8]⟩
abbrev S8x8x32 : Shape := ⟨3, ![8, 8, 32]⟩
abbrev S8x8x32x1 : Shape := ⟨4, ![8, 8, 32, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .fp8e4m3⟩
  | .hbm, ⟨3, _⟩ => ⟨S8x4096x1024, .fp8e4m3⟩
  | .hbm, ⟨4, _⟩ => ⟨S8x8x128x4096, .fp8e4m3⟩
  | .hbm, ⟨5, _⟩ => ⟨S8x8x32x128, .f32⟩
  | .hbm, ⟨6, _⟩ => ⟨S8x8x32x128, .f32⟩
  | .local _ .vmem, ⟨0, _⟩ => ⟨S8x4096x1024, .bf16⟩
  | .local _ .vmem, ⟨1, _⟩ => ⟨S8x4096x1024, .bf16⟩
  | .local _ .vmem, ⟨2, _⟩ => ⟨S8x4096x1024, .fp8e4m3⟩
  | .local _ .vmem, ⟨3, _⟩ => ⟨S8x4096x1024, .fp8e4m3⟩
  | .local _ .vmem, ⟨4, _⟩ => ⟨S8x8x128x4096, .fp8e4m3⟩
  | .local _ .vmem, ⟨5, _⟩ => ⟨S8x8x32x128, .f32⟩
  | .local _ .vmem, ⟨6, _⟩ => ⟨S8x8x32x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x128x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
/- WHAT ONE GRID POINT COMPUTES, as vectors: the three passes over the 32 key blocks written once each as a recursion over the
   blocks, and the stores of the body stated in those terms. -/
module

public import proofs.«01_k».proof.Proof.Gen.KernelIdeal.Frame

@[expose] public section

set_option synthInstance.maxSize 4096

noncomputable section

namespace Cert.KernelIdeal.Body

open Cert.KernelIdeal Cert.KernelIdeal.Gen Idealize.ShloMosaic Idealize.SL.Sem

variable {F : FTy → Type} [FloatOps F] [Named F]

/-! ## The blocks' rectangles -/

theorem inb_k (n : ℕ) : ∀ a, (![0, 128 * (n % 32), 0] : Fin 3 → ℕ) a + S1x128x128.size a ≤ S1x4096x128.size a := by
  have h : n % 32 < 32 := Nat.mod_lt _ (by decide)
  intro a; fin_cases a <;> simp [S1x128x128, S1x4096x128] <;> omega
theorem inb_v (n : ℕ) : ∀ a, (![0, 0, 0, 128 * (n % 32)] : Fin 4 → ℕ) a + S1x1x128x128.size a ≤ S1x1x128x4096.size a := by
  have h : n % 32 < 32 := Nat.mod_lt _ (by decide)
  intro a; fin_cases a <;> simp [S1x1x128x128, S1x1x128x4096] <;> omega
theorem inb_vs (n : ℕ) : ∀ a, (![0, 0, n % 32, 0] : Fin 4 → ℕ) a + S1x1x1x1.size a ≤ S1x1x32x128.size a := by
  have h : n % 32 < 32 := Nat.mod_lt _ (by decide)
  intro a; fin_cases a <;> simp [S1x1x1x1, S1x1x32x128] <;> omega
theorem inb_f (n : ℕ) : ∀ a, (![n % 32, 0] : Fin 2 → ℕ) a + S1x512.size a ≤ S32x512.size a := by
  have h : n % 32 < 32 := Nat.mod_lt _ (by decide)
  intro a; fin_cases a <;> simp [S1x512, S32x512] <;> omega
theorem inb_s (n : ℕ) : ∀ a, (![128 * (n % 32), 0] : Fin 2 → ℕ) a + S128x512.size a ≤ S4096x512.size a := by
  have h : n % 32 < 32 := Nat.mod_lt _ (by decide)
  intro a; fin_cases a <;> simp [S128x512, S4096x512] <;> omega

/-- The rectangle of key block `n`. -/
abbrev rectK (n : ℕ) : Rect S1x4096x128 := Rect.unit ![0, 128 * (n % 32), 0] S1x128x128.size (inb_k n)
/-- The rectangle of value block `n` (values transposed). -/
abbrev rectV (n : ℕ) : Rect S1x1x128x4096 := Rect.unit ![0, 0, 0, 128 * (n % 32)] S1x1x128x128.size (inb_v n)
/-- The rectangle of block `n`'s scale. -/
abbrev rectVs (n : ℕ) : Rect S1x1x32x128 := Rect.unit ![0, 0, n % 32, 0] S1x1x1x1.size (inb_vs n)
/-- Row `n` of the factors. -/
abbrev rectF (n : ℕ) : Rect S32x512 := Rect.unit ![n % 32, 0] S1x512.size (inb_f n)
/-- The rows of block `n` in the scores and in the probabilities. -/
abbrev rectS (n : ℕ) : Rect S4096x512 := Rect.unit ![128 * (n % 32), 0] S128x512.size (inb_s n)
/-- The whole of the query codes. -/
abbrev rectQ : Rect S512x128 := Rect.unit ![0, 0] S512x128.size inb_S512x128_S512x128_0_0
/-- The whole of the key scales' block. -/
abbrev rectKs : Rect S1x1x32x128 := Rect.unit ![0, 0, 0, 0] S1x1x32x128.size inb_S1x1x32x128_S1x1x32x128_0_0_0_0

/-! ## The query quantiser -/

/-- The codes of one query block. -/
abbrev qCode (v : Vec F S1x128x128 .bf16) : FVec F S128x128 .fp8e4m3 := k0_pay6 (k0_pay4 v)
/-- The query codes stored for the products, one group of rows for each query head. -/
abbrev qPieces (xs : ℕ → Vec F S1x128x128 .bf16) : List (View.Piece (Elt F) S512x128 .fp8e4m3) :=
  [⟨Rect.unit ![384, 0] S128x128.size inb_S512x128_S128x128_384_0, k0_pay8 (k0_pay4 (xs 3))⟩,
   ⟨Rect.unit ![256, 0] S128x128.size inb_S512x128_S128x128_256_0, k0_pay8 (k0_pay4 (xs 2))⟩,
   ⟨Rect.unit ![128, 0] S128x128.size inb_S512x128_S128x128_128_0, k0_pay8 (k0_pay4 (xs 1))⟩,
   ⟨Rect.unit ![0, 0] S128x128.size inb_S512x128_S128x128_0_0, k0_pay8 (k0_pay4 (xs 0))⟩]
/-- The factors stored, one group of columns for each query head. -/
abbrev fPieces (xs : ℕ → Vec F S1x128x128 .bf16) (ks : Vec F S1x1x32x128 .f32) : List (View.Piece (Elt F) S32x512 .f32) :=
  [⟨Rect.unit ![0, 384] S32x128.size inb_S32x512_S32x128_0_384, k0_pay10 (k0_pay3 (xs 3)) ks⟩,
   ⟨Rect.unit ![0, 256] S32x128.size inb_S32x512_S32x128_0_256, k0_pay10 (k0_pay3 (xs 2)) ks⟩,
   ⟨Rect.unit ![0, 128] S32x128.size inb_S32x512_S32x128_0_128, k0_pay10 (k0_pay3 (xs 1)) ks⟩,
   ⟨Rect.unit ![0, 0] S32x128.size inb_S32x512_S32x128_0_0, k0_pay10 (k0_pay3 (xs 0)) ks⟩]

/-! ## The three passes -/

/-- The scores of one key block: products of its codes with all query codes. -/
def sBlk (q : Vec F S512x128 .fp8e4m3) (k : Vec F S1x128x128 .fp8e4m3) : FVec F S128x512 .f32 :=
  matmul dot_S128x128_S512x128_S128x512_1_1_0_0_n_n none (shapeCast S128x128 k shapeCasts_S1x128x128_S128x128) q
    (constant S128x512 .f32 0x00000000#32)

/-- The running maximum of the scaled scores after `n` blocks, eight sublanes. -/
def mAcc (s : ℕ → FVec F S128x512 .f32) (f : ℕ → FVec F S1x512 .f32) : ℕ → FVec F S8x512 .f32
  | 0 => k0_pay41
  | n + 1 => maximumf (mAcc s f n)
      (mulf (multiReduction .maximumf [0] S8x512 (shapeCast S16x8x512 (s n) shapeCasts_S128x512_S16x8x512) 0xFF800000#32
        reduces_S16x8x512_S8x512 (.inl rfl) rfl) (broadcastTo S8x512 (f n) broadcasts_S1x512_S8x512))

/-- The maximum of each query row. -/
def mRow (m8 : FVec F S8x512 .f32) : FVec F S1x512 .f32 :=
  shapeCast S1x512 (multiReduction .maximumf [0] S512 m8 0xFF800000#32 reduces_S8x512_S512 (.inl rfl) rfl) shapeCasts_S512_S1x512

/-- The scale exponent of each query row's probabilities. -/
def pExp (m : FVec F S1x512 .f32) : IVec S1x512 32 :=
  have a : FVec F S1x512 .f32 := exp2 (subf m m)
  have z : FVec F S1x512 .f32 := mulf a (broadcast S1x512 (Scalar.ofBits .f32 0x3B124925#32))
  have powers : FVec F S255x512 .f32 := bitcastToFloat .f32
    (shli (addi (iota .tc S255x512 32 [0] iota_S255x512_d0_w32) (broadcast S255x512 1#32)) (broadcast S255x512 23#32))
  have biased : IVec S1x512 32 := shapeCast S1x512 (multiReductionI .add [0] S512
    (extui 32 (cmpf .oge (broadcastTo S255x512 z broadcasts_S1x512_S255x512) powers) natLt_1_32) 0#32
    reduces_S255x512_S512 rfl) shapeCasts_S512_S1x512
  select (cmpf .ogt a (broadcast S1x512 (Scalar.ofBits .f32 0x00000000#32)))
    (select (cmpi .eq biased (broadcast S1x512 0#32)) (broadcast S1x512 0#32) (subi biased (broadcast S1x512 126#32)))
    (broadcast S1x512 0#32)

/-- The scale of each query row's probabilities. -/
def pScale (m : FVec F S1x512 .f32) : FVec F S1x512 .f32 :=
  bitcastToFloat .f32 (shli (addi (pExp m) (broadcast S1x512 127#32)) (broadcast S1x512 23#32))

/-- The shift of each query row: its maximum and the scale exponent. -/
def pShift (m : FVec F S1x512 .f32) : FVec F S1x512 .f32 := addf m (sitofp .f32 (pExp m))

/-- The scaled probabilities of one block. -/
def pBlk (m : FVec F S1x512 .f32) (s : FVec F S128x512 .f32) (f : FVec F S1x512 .f32) : FVec F S128x512 .f32 :=
  exp2 (subf (mulf s (broadcastTo S128x512 f broadcasts_S1x512_S128x512)) (broadcastTo S128x512 (pShift m) broadcasts_S1x512_S128x512))

/-- The codes of the probabilities of one block. -/
def pCode (p : FVec F S128x512 .f32) : FVec F S128x512 .fp8e4m3 :=
  truncf .fp8e4m3 (minimumf (broadcast S128x512 (Scalar.ofBits .f32 0x43E00000#32))
    (maximumf (broadcast S128x512 (Scalar.ofBits .f32 0xC3E00000#32)) p)) bitsLt_fp8e4m3_f32

/-- The running sum of the scaled probabilities after `n` blocks, eight sublanes. -/
def lAcc (p : ℕ → FVec F S128x512 .f32) : ℕ → FVec F S8x512 .f32
  | 0 => k0_pay128
  | n + 1 => addf (lAcc p n) (multiReduction .add [0] S8x512 (shapeCast S16x8x512 (p n) shapeCasts_S128x512_S16x8x512) 0x00000000#32
      reduces_S16x8x512_S8x512 (.inl rfl) rfl)

/-- The sum of each query row's probabilities. -/
def lRow (m : FVec F S1x512 .f32) (l8 : FVec F S8x512 .f32) : FVec F S1x512 .f32 :=
  mulf (shapeCast S1x512 (multiReduction .add [0] S512 l8 0x00000000#32 reduces_S8x512_S512 (.inl rfl) rfl) shapeCasts_S512_S1x512)
    (pScale m)

/-- The running output after `n` blocks. -/
def oAcc (v : ℕ → Vec F S1x1x128x128 .fp8e4m3) (p : ℕ → Vec F S128x512 .fp8e4m3) (vs : ℕ → Vec F S1x1x1x1 .f32) : ℕ → FVec F S128x512 .f32
  | 0 => k0_pay215
  | n + 1 => addf (oAcc v p vs n) (mulf
      (matmul dot_S128x128_S128x512_S128x512_1_0_0_1_n_n none (shapeCast S128x128 (v n) shapeCasts_S1x1x128x128_S128x128) (p n)
        (constant S128x512 .f32 0x00000000#32))
      (broadcastTo S128x512 (shapeCast S1x1 (vs n) shapeCasts_S1x1x1x1_S1x1) broadcasts_S1x1_S128x512))

/-- The output, normalised. -/
def oFin (m : FVec F S1x512 .f32) (l8 : FVec F S8x512 .f32) (o : FVec F S128x512 .f32) : FVec F S128x512 .f32 :=
  mulf o (broadcastTo S128x512 (divf (pScale m) (lRow m l8)) broadcasts_S1x512_S128x512)

/-- The scores stored, the last block first. -/
def sPieces (s : ℕ → FVec F S128x512 .f32) : ℕ → List (View.Piece (Elt F) S4096x512 .f32)
  | 0 => []
  | n + 1 => ⟨rectS n, shapeCast S128x512 (s n) shapeCasts_S128x512_S128x512⟩ :: sPieces s n

/-- The probabilities' codes stored, the last block first. -/
def pPieces (p : ℕ → FVec F S128x512 .f32) : ℕ → List (View.Piece (Elt F) S4096x512 .fp8e4m3)
  | 0 => []
  | n + 1 => ⟨rectS n, shapeCast S128x512 (pCode (p n)) shapeCasts_S128x512_S128x512⟩ :: pPieces p n

/-- The part of the output that one query head gets. -/
abbrev yPart (o : FVec F S128x512 .f32) (off : Fin 2 → ℕ) (h : S128x512.Slices off S128x128) : FVec F S1x128x128 .bf16 :=
  shapeCast S1x128x128 (truncf .bf16 (transpose S128x128 [1, 0] (extractStridedSlice S128x128 off o h)
    transposes_S128x128_p1_0_S128x128) bitsLt_bf16_f32) shapeCasts_S128x128_S1x128x128

end Cert.KernelIdeal.Body

end
-- ==== Proof.Exponent.lean ====
/- THE EXPONENT OF THE QUANTISER: the kernel counts the powers of two that do not exceed `a / 448`, the reference takes the floor
   of a logarithm. Both give one integer, `expZ a`, and its power of two is one real number on both sides. -/
module

public import Idealize.ShloMosaic.Lib.Pointwise
public import Idealize.ShloMosaic.Lib.IndicatorCount

@[expose] public section

noncomputable section

namespace Cert.Attn

open Idealize.ShloMosaic

/-- The floor of the binary logarithm of a real. -/
def lg (z : ℝ) : ℤ := ⌊Real.log z / Real.log 2⌋

/-- A power of two is at most `z` exactly when its exponent is at most the logarithm's floor. -/
theorem zpow_le_iff {z : ℝ} (hz : 0 < z) (j : ℤ) : (2 : ℝ) ^ j ≤ z ↔ j ≤ lg z := by
  have hl2 : 0 < Real.log 2 := Real.log_pos (by norm_num)
  rw [lg, Int.le_floor, le_div_iff₀ hl2, ← Real.log_zpow, Real.log_le_log_iff (by positivity) hz]

/-- A power of two is above `z` exactly when its exponent is above the logarithm's floor. -/
theorem lt_zpow_iff {z : ℝ} (hz : 0 < z) (j : ℤ) : z < (2 : ℝ) ^ j ↔ lg z < j := by
  rw [← not_le, zpow_le_iff hz, not_le]

/-- The constant `1/448` that both programs carry. -/
abbrev c448 : EReal := Ideal.ofBits .f32 0x3B124925#32

/-- The constant is a positive real, at most a quarter. -/
theorem c448_real : ∃ c : ℝ, c448 = (c : EReal) ∧ 0 < c ∧ c ≤ 1 / 4 := by
  refine ⟨(9586981 : ℝ) * (2 : ℝ) ^ (-32 : ℤ), ?_, by norm_num, by norm_num⟩
  simp [c448, Ideal.ofBits, Ideal.ieee]

theorem ofBits_two : Ideal.ofBits .f32 0x40000000#32 = ((2 : ℝ) : EReal) := by
  simp [Ideal.ofBits, Ideal.ieee]; rw [← EReal.coe_mul]; norm_num
theorem ofBits_minNormal : Ideal.ofBits .f32 0x00800000#32 = (((2 : ℝ) ^ (-126 : ℤ) : ℝ) : EReal) := by
  simp [Ideal.ofBits, Ideal.ieee]; rw [← EReal.coe_mul]; norm_num
theorem ofBits_ninf : Ideal.ofBits .f32 0xFF800000#32 = ⊥ := by
  simp [Ideal.ofBits, Ideal.ieee]

/-- A word of sign zero, exponent field `n` and fraction zero denotes `2 ^ (n - 127)`. -/
theorem ofBits_fields (b : BitVec 32) (n : ℕ) (h1 : 1 ≤ n) (h2 : n ≤ 254) (hS : (b.extractLsb' (8 + 23) 1 == 1#1) = false)
    (hE : (b.extractLsb' 23 8).toNat = n) (hF : (b.extractLsb' 0 23).toNat = 0) :
    Ideal.ofBits .f32 b = (((2 : ℝ) ^ ((n : ℤ) - 127) : ℝ) : EReal) := by
  show Ideal.ieee 8 23 b = _
  simp only [Ideal.ieee, hS, hE, hF]
  rw [if_neg (by norm_num; omega), if_neg (by omega)]
  congr 1
  simp only [Bool.false_eq_true, if_false, one_mul, add_zero, Nat.cast_pow, Nat.cast_ofNat]
  rw [← zpow_natCast (2 : ℝ) 23, ← zpow_add₀ (by norm_num)]
  congr 1; push_cast; ring

/-- The word `n << 23` denotes `2 ^ (n - 127)` for a normal exponent field `n`. -/
theorem ofBits_shl (n : ℕ) (h1 : 1 ≤ n) (h2 : n ≤ 254) :
    Ideal.ofBits .f32 (BitVec.ofNat 32 n <<< 23) = (((2 : ℝ) ^ ((n : ℤ) - 127) : ℝ) : EReal) := by
  have e0 : (BitVec.ofNat 32 n <<< 23).toNat = n * 2 ^ 23 := by
    rw [BitVec.toNat_shiftLeft, BitVec.toNat_ofNat, Nat.shiftLeft_eq]; omega
  have eS : (BitVec.extractLsb' (8 + 23) 1 (BitVec.ofNat 32 n <<< 23) == 1#1) = false := by
    rw [beq_eq_false_iff_ne]; intro h
    have := congrArg BitVec.toNat h
    rw [BitVec.extractLsb'_toNat, e0, Nat.shiftRight_eq_div_pow] at this
    simp at this; omega
  have eE : (BitVec.extractLsb' 23 8 (BitVec.ofNat 32 n <<< 23)).toNat = n := by
    rw [BitVec.extractLsb'_toNat, e0, Nat.shiftRight_eq_div_pow]; omega
  have eF : (BitVec.extractLsb' 0 23 (BitVec.ofNat 32 n <<< 23)).toNat = 0 := by
    rw [BitVec.extractLsb'_toNat, e0, Nat.shiftRight_eq_div_pow]; omega
  exact ofBits_fields _ n h1 h2 eS eE eF

/-- The all-ones exponent field denotes `+∞`. -/
theorem ofBits_shl_top : Ideal.ofBits .f32 (BitVec.ofNat 32 255 <<< 23) = ⊤ := by
  simp [Ideal.ofBits, Ideal.ieee]

/-- The power word of the threshold list: threshold `k` has exponent field `k + 1`. -/
theorem thr_word (k : ℕ) (h : k < 255) :
    IntOp.shli ArithUnit.vector (IntOp.addi (BitVec.ofNat 32 k) 1#32) 23#32 = BitVec.ofNat 32 (k + 1) <<< 23 := by
  have : IntOp.addi (BitVec.ofNat 32 k) 1#32 = BitVec.ofNat 32 (k + 1) := by
    show BitVec.ofNat 32 k + 1#32 = _
    rw [BitVec.ofNat_add]
  rw [this]; rfl

/-- The count of thresholds not above `z`, as the kernel folds it. -/
def kCount (z : EReal) : BitVec 32 :=
  Finset.fold IntOp.addi (0#32) (fun x : Fin 255 => BitVec.setWidth 32 (BitVec.ofBool (decide
    (Ideal.ofBits FTy.f32 (IntOp.shli ArithUnit.vector (IntOp.addi (BitVec.ofNat 32 ↑x) 1#32) 23#32) ≤ z)))) Finset.univ

/-- The kernel's exponent of a magnitude `a`. -/
def kExp (a : EReal) : BitVec 32 :=
  if 0 < a then Scalar.select (IntOp.cmpi CmpIPredicate.eq (kCount (a * c448)) 0#32) (0#32) (IntOp.subi (kCount (a * c448)) 126#32)
  else 0#32

/-- The reference's exponent of a magnitude `a`. -/
def rExp (a : EReal) : EReal :=
  if Ideal.ofBits .f32 0x00800000#32 ≤ a * c448 then
    Ideal.liftRound Int.floor (Ideal.div (Ideal.log (a * c448)) (Ideal.log (Ideal.ofBits .f32 0x40000000#32))) + 1
  else 0

/-- The exponent as an integer. -/
def expZ (a : EReal) : ℤ :=
  if (2 : ℝ) ^ (-126 : ℤ) ≤ (a * c448).toReal then lg (a * c448).toReal + 1 else 0

/-- The count for a real `z` below `2 ^ 127`. -/
theorem kCount_real (z : ℝ) (hz : z < (2 : ℝ) ^ (127 : ℤ)) :
    kCount (z : EReal) = BitVec.ofNat 32 (if (2 : ℝ) ^ (-126 : ℤ) ≤ z then (lg z + 127).toNat else 0) := by
  unfold kCount
  rw [IndicatorCount.fold_addi_setWidth_eq_card]
  congr 1
  have key : ∀ k : Fin 255, (Ideal.ofBits FTy.f32 (IntOp.shli ArithUnit.vector (IntOp.addi (BitVec.ofNat 32 ↑k) 1#32) 23#32) ≤ (z : EReal))
      ↔ (2 : ℝ) ^ ((k.val : ℤ) - 126) ≤ z := by
    intro k
    rw [thr_word k.val k.isLt]
    by_cases hk : k.val + 1 ≤ 254
    · rw [ofBits_shl _ (by omega) hk, EReal.coe_le_coe_iff]
      have : ((k.val + 1 : ℕ) : ℤ) - 127 = (k.val : ℤ) - 126 := by push_cast; ring
      rw [this]
    · have h254 : k.val = 254 := by have := k.isLt; omega
      rw [h254, ofBits_shl_top]
      constructor
      · intro h; exact absurd (top_le_iff.1 h) (EReal.coe_ne_top z)
      · intro h; exfalso
        have : (2 : ℝ) ^ (127 : ℤ) ≤ (2 : ℝ) ^ (((254 : ℕ) : ℤ) - 126) := zpow_le_zpow_right₀ (by norm_num) (by norm_num)
        linarith
  have key2 : (Finset.univ.filter fun k : Fin 255 => BitVec.ofBool (decide
      (Ideal.ofBits FTy.f32 (IntOp.shli ArithUnit.vector (IntOp.addi (BitVec.ofNat 32 ↑k) 1#32) 23#32) ≤ (z : EReal))) = 1#1)
      = Finset.univ.filter fun k : Fin 255 => (2 : ℝ) ^ ((k.val : ℤ) - 126) ≤ z := by
    ext k
    simp only [Finset.mem_filter, Finset.mem_univ, true_and]
    rw [← key k]
    by_cases h : Ideal.ofBits FTy.f32 (IntOp.shli ArithUnit.vector (IntOp.addi (BitVec.ofNat 32 ↑k) 1#32) 23#32) ≤ (z : EReal) <;> simp [h]
  rw [key2]
  split_ifs with h
  · have hz0 : 0 < z := lt_of_lt_of_le (by positivity) h
    have l1 : -126 ≤ lg z := (zpow_le_iff hz0 _).1 h
    have l2 : lg z < 127 := (lt_zpow_iff hz0 _).1 hz
    have : (Finset.univ.filter fun k : Fin 255 => (2 : ℝ) ^ ((k.val : ℤ) - 126) ≤ z)
        = Finset.univ.filter fun k : Fin 255 => k.val < (lg z + 127).toNat := by
      ext k
      simp only [Finset.mem_filter, Finset.mem_univ, true_and]
      rw [zpow_le_iff hz0]; omega
    rw [this, Fin.card_filter_val_lt]
    omega
  · rw [Finset.card_eq_zero, Finset.filter_eq_empty_iff]
    intro k _ hk
    apply h
    exact le_trans (zpow_le_zpow_right₀ (by norm_num) (by omega)) hk

/-- `z = a / 448` is a real below `2 ^ 126`. -/
theorem z_real (r : ℝ) (h0 : 0 ≤ r) (h1 : r < (2 : ℝ) ^ (128 : ℤ)) :
    ∃ z : ℝ, (r : EReal) * c448 = (z : EReal) ∧ 0 ≤ z ∧ z < (2 : ℝ) ^ (126 : ℤ) ∧ (0 < r ↔ 0 < z) := by
  obtain ⟨c, hc, c0, c1⟩ := c448_real
  refine ⟨r * c, by rw [hc, EReal.coe_mul], by positivity, ?_, ?_⟩
  · have : (2 : ℝ) ^ (126 : ℤ) = (2 : ℝ) ^ (128 : ℤ) * (1 / 4) := by norm_num
    rw [this]
    calc r * c ≤ r * (1 / 4) := by gcongr
      _ < _ := by gcongr
  · constructor
    · intro h; positivity
    · intro h; exact (pos_iff_pos_of_mul_pos h).2 c0

/-- The exponent lies between −125 and 126. -/
theorem expZ_bounds (r : ℝ) (h0 : 0 ≤ r) (h1 : r < (2 : ℝ) ^ (128 : ℤ)) : -125 ≤ expZ r ∧ expZ r ≤ 126 := by
  obtain ⟨z, hz, z0, z1, -⟩ := z_real r h0 h1
  unfold expZ
  rw [hz, EReal.toReal_coe]
  split_ifs with h
  · have hz0 : 0 < z := lt_of_lt_of_le (by positivity) h
    have l1 : -126 ≤ lg z := (zpow_le_iff hz0 _).1 h
    have l2 : lg z < 126 := (lt_zpow_iff hz0 _).1 z1
    omega
  · omega

/-- THE KERNEL'S EXPONENT is the word of the integer. -/
theorem kExp_eq (r : ℝ) (h0 : 0 ≤ r) (h1 : r < (2 : ℝ) ^ (128 : ℤ)) : kExp r = BitVec.ofInt 32 (expZ r) := by
  obtain ⟨z, hz, z0, z1, hpos⟩ := z_real r h0 h1
  have z2 : z < (2 : ℝ) ^ (127 : ℤ) := z1.trans (zpow_lt_zpow_right₀ (by norm_num) (by norm_num))
  unfold kExp expZ
  rw [hz, EReal.toReal_coe, kCount_real z z2]
  by_cases h : (2 : ℝ) ^ (-126 : ℤ) ≤ z
  · have hz0 : 0 < z := lt_of_lt_of_le (by positivity) h
    have l1 : -126 ≤ lg z := (zpow_le_iff hz0 _).1 h
    have l2 : lg z < 126 := (lt_zpow_iff hz0 _).1 z1
    rw [if_pos h, if_pos h, if_pos (by exact_mod_cast hpos.2 hz0)]
    generalize lg z = j at l1 l2
    obtain ⟨n, hn⟩ : ∃ n : ℕ, j + 127 = n := ⟨(j + 127).toNat, by omega⟩
    have hj : j + 1 = (n : ℤ) - 126 := by omega
    rw [hn, hj, Int.toNat_natCast]
    have hne : BitVec.ofNat 32 n ≠ 0#32 := by
      intro h; have := congrArg BitVec.toNat h
      rw [BitVec.toNat_ofNat] at this; simp at this; omega
    have : IntOp.cmpi CmpIPredicate.eq (BitVec.ofNat 32 n) 0#32 = 0#1 := by
      show BitVec.ofBool (BitVec.ofNat 32 n == 0#32) = 0#1
      rw [beq_eq_false_iff_ne.2 hne]; rfl
    rw [this]
    show IntOp.subi (BitVec.ofNat 32 n) 126#32 = _
    show BitVec.ofNat 32 n - 126#32 = _
    rw [Int.sub_eq_add_neg, BitVec.ofInt_add, BitVec.ofInt_neg, BitVec.sub_eq_add_neg]; rfl
  · rw [if_neg h, if_neg h]
    split_ifs <;> rfl

/-- THE REFERENCE'S EXPONENT is the real of the integer. -/
theorem rExp_eq (r : ℝ) (h0 : 0 ≤ r) (h1 : r < (2 : ℝ) ^ (128 : ℤ)) : rExp r = (((expZ r : ℤ) : ℝ) : EReal) := by
  obtain ⟨z, hz, z0, z1, -⟩ := z_real r h0 h1
  unfold rExp expZ
  rw [hz, EReal.toReal_coe, ofBits_minNormal, ofBits_two]
  by_cases h : (2 : ℝ) ^ (-126 : ℤ) ≤ z
  · have hz0 : 0 < z := lt_of_lt_of_le (by positivity) h
    rw [if_pos (EReal.coe_le_coe_iff.2 h), if_pos h]
    have e1 : Ideal.log (z : EReal) = ((Real.log z : ℝ) : EReal) := by
      show (if z ≤ 0 then (⊥ : EReal) else ((Real.log z : ℝ) : EReal)) = _
      rw [if_neg (not_le.2 hz0)]
    have e2 : Ideal.log ((2 : ℝ) : EReal) = ((Real.log 2 : ℝ) : EReal) := by
      show (if (2 : ℝ) ≤ 0 then (⊥ : EReal) else ((Real.log 2 : ℝ) : EReal)) = _
      rw [if_neg (by norm_num)]
    have hl2 : (Real.log 2) ≠ 0 := (Real.log_pos (by norm_num)).ne'
    have e3 : Ideal.div ((Real.log z : ℝ) : EReal) ((Real.log 2 : ℝ) : EReal) = ((Real.log z / Real.log 2 : ℝ) : EReal) := by
      unfold Ideal.div
      rw [if_neg (by exact_mod_cast hl2), ← EReal.coe_inv, ← EReal.coe_mul]
      rfl
    rw [e1, e2, e3]
    show (((lg z : ℤ) : ℝ) : EReal) + 1 = _
    push_cast; rfl
  · rw [if_neg (by rw [EReal.coe_le_coe_iff]; exact h), if_neg h]
    simp

/-- The kernel's word of the scale denotes the power of two. -/
theorem scale_word (e : ℤ) (h1 : -126 ≤ e) (h2 : e ≤ 127) :
    Ideal.ofBits .f32 (IntOp.shli ArithUnit.vector (IntOp.addi (BitVec.ofInt 32 e) 127#32) 23#32) = (((2 : ℝ) ^ e : ℝ) : EReal) := by
  obtain ⟨n, hn⟩ : ∃ n : ℕ, e = (n : ℤ) - 127 := ⟨(e + 127).toNat, by omega⟩
  have : IntOp.addi (BitVec.ofInt 32 e) 127#32 = BitVec.ofNat 32 n := by
    show BitVec.ofInt 32 e + 127#32 = _
    rw [hn, Int.sub_eq_add_neg, BitVec.ofInt_add, BitVec.ofInt_neg]
    show BitVec.ofNat 32 n + -127#32 + 127#32 = _
    rw [BitVec.add_assoc, BitVec.add_comm (-127#32), BitVec.add_neg_eq_sub, BitVec.sub_self, BitVec.add_zero]
  rw [this]
  show Ideal.ofBits .f32 (BitVec.ofNat 32 n <<< 23) = _
  rw [ofBits_shl n (by omega) (by omega), hn]

/-- The kernel's word of the inverse scale denotes the inverse power. -/
theorem inv_word (e : ℤ) (h1 : -127 ≤ e) (h2 : e ≤ 126) :
    Ideal.ofBits .f32 (IntOp.shli ArithUnit.vector (IntOp.addi (IntOp.subi (0#32) (BitVec.ofInt 32 e)) 127#32) 23#32)
      = (((2 : ℝ) ^ (-e) : ℝ) : EReal) := by
  have : IntOp.subi (0#32) (BitVec.ofInt 32 e) = BitVec.ofInt 32 (-e) := by
    show 0#32 - BitVec.ofInt 32 e = _
    rw [BitVec.ofInt_neg, BitVec.zero_sub]
  rw [this, scale_word _ (by omega) (by omega)]

/-- The exponential of an integer. -/
theorem exp2_int (e : ℤ) : Ideal.exp2 (((e : ℤ) : ℝ) : EReal) = (((2 : ℝ) ^ e : ℝ) : EReal) := by
  show ((Real.rpow 2 (e : ℝ) : ℝ) : EReal) = _
  rw [show Real.rpow 2 (e : ℝ) = (2 : ℝ) ^ (e : ℝ) from rfl, Real.rpow_intCast]

/-- … and of its negative, written as a difference from zero. -/
theorem exp2_neg_int (e : ℤ) : Ideal.exp2 (0 - (((e : ℤ) : ℝ) : EReal)) = (((2 : ℝ) ^ (-e) : ℝ) : EReal) := by
  rw [← exp2_int, zero_sub, ← EReal.coe_neg]; push_cast; rfl

/-- An integer of moderate size is the value of its word. -/
theorem word_toInt (e : ℤ) (h1 : -1000 ≤ e) (h2 : e ≤ 1000) : (BitVec.ofInt 32 e).toInt = e := by
  rw [BitVec.toInt_ofInt, Int.bmod_def]; omega

end Cert.Attn

end
-- ==== Proof.Row.lean ====
/- ONE QUERY ROW OF THE ATTENTION, as mathematics over the extended reals: the reference's formula `rowOut` from the products of
   the codes, the factors, the value codes and the value scales, and the theorem that the kernel's arrangement of it (powers of
   two with the logarithm's constant folded in, the scale exponent taken into the shift) gives the same number. -/
module

public import proofs.«01_k».proof.Proof.Exponent

@[expose] public section

noncomputable section

namespace Cert.Attn

open Idealize.ShloMosaic

/-! ## The reference's formula -/

/-- The maximum of a row's scaled scores. -/
def rowMax (S : Fin 32 → Fin 128 → EReal) (f : Fin 32 → EReal) : EReal :=
  (Finset.univ : Finset (Fin 32 × Fin 128)).sup fun p => S p.1 p.2 * f p.1
/-- The exponential of a scaled score less the row's maximum. -/
def prob (S : Fin 32 → Fin 128 → EReal) (f : Fin 32 → EReal) (n : Fin 32) (t : Fin 128) : EReal :=
  Ideal.exp (S n t * f n - rowMax S f)
/-- The largest magnitude of a row's exponentials. -/
def rowMag (S : Fin 32 → Fin 128 → EReal) (f : Fin 32 → EReal) : EReal :=
  (Finset.univ : Finset (Fin 32 × Fin 128)).sup fun p => max (prob S f p.1 p.2) (-prob S f p.1 p.2)
/-- The sum of a row's exponentials. -/
def rowSum (S : Fin 32 → Fin 128 → EReal) (f : Fin 32 → EReal) : EReal := ∑ n, ∑ t, prob S f n t
/-- A value clipped to the format's largest magnitude. -/
def clip (x : EReal) : EReal := min (Ideal.ofBits .f32 0x43E00000#32) (max (Ideal.ofBits .f32 0xC3E00000#32) x)
/-- The row's output at one column of the values. -/
def rowOut (S : Fin 32 → Fin 128 → EReal) (f : Fin 32 → EReal) (v : Fin 32 → Fin 128 → EReal) (vs : Fin 32 → EReal) : EReal :=
  (∑ n, (∑ t, clip (prob S f n t * Ideal.exp2 (0 - rExp (rowMag S f))) * v n t) * vs n)
    * Ideal.div (Ideal.exp2 (rExp (rowMag S f))) (rowSum S f)

/-! ## The kernel's arrangement -/

/-- The constant `1 / log 2`. -/
abbrev log2e : EReal := (((Real.log 2)⁻¹ : ℝ) : EReal)

/-- The kernel's scaled probability, from the row's maximum in powers of two. -/
def kProb (S : Fin 32 → Fin 128 → EReal) (f2 : Fin 32 → EReal) (m2 : EReal) (n : Fin 32) (t : Fin 128) : EReal :=
  Ideal.exp2 (S n t * f2 n - (m2 + (((kExp (Ideal.exp2 (m2 - m2))).toInt : ℝ) : EReal)))
/-- The kernel's scale of the row's probabilities. -/
def kScale (m2 : EReal) : EReal :=
  Ideal.ofBits .f32 (IntOp.shli ArithUnit.vector (IntOp.addi (kExp (Ideal.exp2 (m2 - m2))) 127#32) 23#32)
/-- The kernel's output. -/
def kOut (S : Fin 32 → Fin 128 → EReal) (f2 : Fin 32 → EReal) (m2 : EReal) (v : Fin 32 → Fin 128 → EReal) (vs : Fin 32 → EReal) : EReal :=
  (∑ n, (∑ t, v n t * clip (kProb S f2 m2 n t)) * vs n)
    * Ideal.div (kScale m2) ((∑ n, ∑ t, kProb S f2 m2 n t) * kScale m2)

/-! ## They agree -/

theorem log2e_pos : 0 < (Real.log 2)⁻¹ := inv_pos.2 (Real.log_pos (by norm_num))

/-- A finite sum of reals is the sum of their coercions. -/
theorem coe_sum {ι : Type} (s : Finset ι) (g : ι → ℝ) : ((∑ i ∈ s, g i : ℝ) : EReal) = ∑ i ∈ s, (g i : EReal) := by
  classical
  induction s using Finset.induction_on with
  | empty => rfl
  | insert a s ha ih => rw [Finset.sum_insert ha, Finset.sum_insert ha, EReal.coe_add, ih]

/-- Where the row's exponentials are real multiples, with one exponent on both sides, the outputs agree. -/
theorem out_eq_of (S : Fin 32 → Fin 128 → EReal) (f f2 : Fin 32 → EReal) (m2 : EReal) (v : Fin 32 → Fin 128 → EReal) (vs : Fin 32 → EReal)
    (e : ℤ) (h1 : -125 ≤ e) (h2 : e ≤ 126) (hk : kExp (Ideal.exp2 (m2 - m2)) = BitVec.ofInt 32 e)
    (hr : rExp (rowMag S f) = (((e : ℤ) : ℝ) : EReal)) (P : Fin 32 → Fin 128 → ℝ) (hP : ∀ n t, prob S f n t = (P n t : EReal))
    (hp : ∀ n t, kProb S f2 m2 n t = ((P n t * (2 : ℝ) ^ (-e) : ℝ) : EReal)) : kOut S f2 m2 v vs = rowOut S f v vs := by
  have hs : kScale m2 = (((2 : ℝ) ^ e : ℝ) : EReal) := by
    unfold kScale; rw [hk, scale_word e (by omega) (by omega)]
  have hsum : (∑ n, ∑ t, kProb S f2 m2 n t) * kScale m2 = rowSum S f := by
    unfold rowSum
    simp only [hp, hP, hs]
    have c1 : ∀ (g : Fin 32 → Fin 128 → ℝ), (∑ n, ∑ t, ((g n t : ℝ) : EReal)) = ((∑ n, ∑ t, g n t : ℝ) : EReal) := by
      intro g
      rw [coe_sum]
      exact Finset.sum_congr rfl fun n _ => (coe_sum _ _).symm
    rw [c1, c1, ← EReal.coe_mul]
    congr 1
    rw [Finset.sum_mul]
    refine Finset.sum_congr rfl fun n _ => ?_
    rw [Finset.sum_mul]
    refine Finset.sum_congr rfl fun t _ => ?_
    rw [mul_assoc, ← zpow_add₀ (by norm_num)]; simp
  unfold kOut rowOut
  rw [hsum, hr, exp2_int, exp2_neg_int, hs]
  congr 1
  refine Finset.sum_congr rfl fun n _ => ?_
  congr 1
  refine Finset.sum_congr rfl fun t _ => ?_
  rw [hp, hP, ← EReal.coe_mul, mul_comm]

theorem zero_exp : kExp 0 = BitVec.ofInt 32 (expZ 0) := by
  have := kExp_eq 0 le_rfl (by positivity); simpa using this

/-- A finite supremum over all pairs is one of its values. -/
theorem sup_attained (g : Fin 32 × Fin 128 → EReal) : ∃ p, (Finset.univ : Finset (Fin 32 × Fin 128)).sup g = g p := by
  obtain ⟨p, -, h⟩ := Finset.exists_mem_eq_sup Finset.univ ⟨(0, 0), Finset.mem_univ _⟩ g
  exact ⟨p, h⟩

/-- THE ROW: the kernel's output is the reference's, the factors being nonnegative reals and the kernel's factors and maximum the
    reference's times `1 / log 2`. -/
theorem kOut_eq (S : Fin 32 → Fin 128 → EReal) (f f2 : Fin 32 → EReal) (m2 : EReal) (v : Fin 32 → Fin 128 → EReal) (vs : Fin 32 → EReal)
    (hf2 : ∀ n, f2 n = f n * log2e) (hm : m2 = rowMax S f * log2e) :
    kOut S f2 m2 v vs = rowOut S f v vs := by
  have hL := log2e_pos
  have hx : ∀ n t, S n t * f2 n = (S n t * f n) * log2e := fun n t => by rw [hf2, mul_assoc]
  have hle : ∀ n t, S n t * f n ≤ rowMax S f := fun n t =>
    Finset.le_sup (f := fun p : Fin 32 × Fin 128 => S p.1 p.2 * f p.1) (Finset.mem_univ (n, t))
  have hb0 := expZ_bounds 0 le_rfl (by positivity)
  have hb1 := expZ_bounds 1 (by norm_num) (by norm_num)
  have zeroCase : (∀ n t, prob S f n t = 0) → (∀ n t, kProb S f2 m2 n t = 0) → Ideal.exp2 (m2 - m2) = 0 →
      kOut S f2 m2 v vs = rowOut S f v vs := by
    intro h1 h2 h3
    have hmag : rowMag S f = ((0 : ℝ) : EReal) := by
      unfold rowMag; obtain ⟨p, hp⟩ := sup_attained fun p => max (prob S f p.1 p.2) (-prob S f p.1 p.2)
      rw [hp, h1]; simp
    refine out_eq_of S f f2 m2 v vs (expZ ((0 : ℝ) : EReal)) hb0.1 hb0.2 ?_ ?_ (fun _ _ => 0) ?_ ?_
    · rw [h3]; exact kExp_eq 0 le_rfl (by positivity)
    · rw [hmag]; exact rExp_eq 0 le_rfl (by positivity)
    · intro n t; rw [h1]; rfl
    · intro n t; rw [h2, zero_mul]; rfl
  have hcase : rowMax S f = ⊥ ∨ (∃ r : ℝ, rowMax S f = (r : EReal)) ∨ rowMax S f = ⊤ := by
    induction rowMax S f using EReal.rec <;> simp
  rcases hcase with hmx | ⟨mr, hmx⟩ | hmx
  · -- all scores are −∞
    have hm2 : m2 = ⊥ := by rw [hm, hmx]; exact EReal.bot_mul_coe_of_pos hL
    have hbot : ∀ n t, S n t * f n = ⊥ := fun n t => le_bot_iff.1 (hmx ▸ hle n t)
    refine zeroCase ?_ ?_ ?_
    · intro n t; unfold prob; rw [hbot, EReal.bot_sub]; rfl
    · intro n t; unfold kProb; rw [hx, hbot, EReal.bot_mul_coe_of_pos hL, EReal.bot_sub]; rfl
    · rw [hm2, EReal.bot_sub]; rfl
  · -- the maximum is a real
    have hm2 : m2 = ((mr * (Real.log 2)⁻¹ : ℝ) : EReal) := by rw [hm, hmx, ← EReal.coe_mul]
    have ha : Ideal.exp2 (m2 - m2) = ((1 : ℝ) : EReal) := by
      rw [hm2, ← EReal.coe_sub, sub_self]
      show ((Real.rpow 2 0 : ℝ) : EReal) = _
      rw [show Real.rpow 2 0 = (2 : ℝ) ^ (0 : ℝ) from rfl, Real.rpow_zero]
    have hl2 : Real.log 2 ≠ 0 := (Real.log_pos (by norm_num)).ne'
    have hE : kExp (Ideal.exp2 (m2 - m2)) = BitVec.ofInt 32 (expZ ((1 : ℝ) : EReal)) := by
      rw [ha]; exact kExp_eq 1 (by norm_num) (by norm_num)
    generalize he : expZ ((1 : ℝ) : EReal) = e at hE hb1
    have hpt : ∀ n t, ∃ P : ℝ, 0 ≤ P ∧ P ≤ 1 ∧ prob S f n t = (P : EReal) ∧ kProb S f2 m2 n t = ((P * (2 : ℝ) ^ (-e) : ℝ) : EReal) := by
      intro n t
      have hx' := hx n t
      have hle' := hle n t
      unfold prob kProb
      rw [hE, word_toInt e (by omega) (by omega), hx', hm2, hmx, ← EReal.coe_add]
      rw [hmx] at hle'
      generalize S n t * f n = x at hle'
      induction x using EReal.rec with
      | bot =>
        refine ⟨0, le_rfl, by norm_num, ?_, ?_⟩
        · rw [EReal.bot_sub]; rfl
        · rw [EReal.bot_mul_coe_of_pos hL, EReal.bot_sub, zero_mul]; rfl
      | coe x =>
        rw [EReal.coe_le_coe_iff] at hle'
        refine ⟨Real.exp (x - mr), (Real.exp_pos _).le, Real.exp_le_one_iff.2 (by linarith), ?_, ?_⟩
        · rw [← EReal.coe_sub]; rfl
        · rw [← EReal.coe_mul, ← EReal.coe_sub]
          show ((Real.rpow 2 _ : ℝ) : EReal) = _
          congr 1
          show (2 : ℝ) ^ (x * (Real.log 2)⁻¹ - (mr * (Real.log 2)⁻¹ + (e : ℝ))) = _
          rw [Real.rpow_def_of_pos (by norm_num), ← Real.rpow_intCast, Real.rpow_def_of_pos (by norm_num), ← Real.exp_add]
          congr 1
          push_cast
          field_simp
          ring
      | top => exact absurd (top_le_iff.1 hle') (EReal.coe_ne_top _)
    choose P hP0 hP1 hP hp using hpt
    have hmag : rowMag S f = ((1 : ℝ) : EReal) := by
      unfold rowMag
      apply le_antisymm
      · refine Finset.sup_le fun p _ => ?_
        rw [hP, ← EReal.coe_neg]
        have h0 := hP0 p.1 p.2
        have h1 := hP1 p.1 p.2
        refine max_le (EReal.coe_le_coe_iff.2 h1) (EReal.coe_le_coe_iff.2 (by linarith))
      · obtain ⟨p, hp'⟩ := sup_attained fun p : Fin 32 × Fin 128 => S p.1 p.2 * f p.1
        have h1 : prob S f p.1 p.2 = ((1 : ℝ) : EReal) := by
          unfold prob
          have : S p.1 p.2 * f p.1 = (mr : EReal) := by rw [← hmx]; exact hp'.symm
          rw [this, hmx, ← EReal.coe_sub, sub_self]
          show ((Real.exp 0 : ℝ) : EReal) = _
          rw [Real.exp_zero]
        refine le_trans ?_ (Finset.le_sup (f := fun p : Fin 32 × Fin 128 => max (prob S f p.1 p.2) (-prob S f p.1 p.2)) (Finset.mem_univ p))
        rw [← h1]; exact le_max_left _ _
    refine out_eq_of S f f2 m2 v vs e hb1.1 hb1.2 hE ?_ P hP hp
    rw [hmag, ← he]; exact rExp_eq 1 (by norm_num) (by norm_num)
  · -- the maximum is +∞
    have hm2 : m2 = ⊤ := by rw [hm, hmx]; exact EReal.top_mul_coe_of_pos hL
    refine zeroCase ?_ ?_ ?_
    · intro n t; unfold prob; rw [hmx, EReal.sub_top]; rfl
    · intro n t; unfold kProb; rw [hm2, EReal.top_add_coe, EReal.sub_top]; rfl
    · rw [hm2, EReal.sub_top]; rfl

/-! ## Suprema -/

/-- A supremum times a nonnegative factor is at most `c` exactly when each value times the factor is. -/
theorem sup_mul_le {ι : Type} [Fintype ι] [Nonempty ι] (g : ι → EReal) (f c : EReal) (hf : 0 ≤ f) :
    (Finset.univ.sup g) * f ≤ c ↔ ∀ x, g x * f ≤ c := by
  constructor
  · intro h x
    exact le_trans (mul_le_mul_of_nonneg_right (Finset.le_sup (Finset.mem_univ x)) hf) h
  · intro h
    obtain ⟨x, -, hx⟩ := Finset.exists_mem_eq_sup Finset.univ Finset.univ_nonempty g
    rw [hx]; exact h x

/-- The fold of the maximum from −∞ is the supremum. -/
theorem fold_max_eq_sup {ι : Type} (s : Finset ι) (g : ι → EReal) :
    s.fold max (Ideal.ofBits FTy.f32 0xFF800000#32) g = s.sup g := by
  rw [ofBits_ninf]; rfl

end Cert.Attn

end
-- ==== Proof.Quant.lean ====
/- THE QUERY QUANTISER OF THE KERNEL, read at an index: a block's codes, its scale and its factors from the block's largest
   magnitude, in the reference's terms (`rExp`). -/
module

public import proofs.«01_k».proof.Proof.Body
public import proofs.«01_k».proof.Proof.Row

@[expose] public section

set_option synthInstance.maxSize 4096
set_option maxRecDepth 65536

noncomputable section

namespace Cert.KernelIdeal.Body

open Cert.KernelIdeal Cert.KernelIdeal.Gen Cert.Attn Idealize.ShloMosaic Idealize.SL.Sem

/-- The largest magnitude of a query block of one head. -/
def mag (v : Vec Ideal S1x128x128 .bf16) : EReal :=
  (Finset.univ : Finset (Fin 128 × Fin 128)).sup fun p => max (v (ix3 0 p.1 p.2)) (-v (ix3 0 p.1 p.2))

/-- A magnitude within the range of the input format. -/
def Small (a : EReal) : Prop := ∃ r : ℝ, a = (r : EReal) ∧ 0 ≤ r ∧ r < (2 : ℝ) ^ (128 : ℤ)

/-- The kernel's exponent word of a block. -/
theorem pay3_apply (v : Vec Ideal S1x128x128 .bf16) (i j : Fin 1) : k0_pay3 v (ix2 i j) = kExp (mag v) := by
  have hm : (Finset.univ : Finset (Fin 128 × Fin 128)).fold max (Ideal.ofBits FTy.f32 0xFF800000#32)
      (fun x => FloatOps.absf (F := Ideal) (φ := .f32) (v (ix3 0 x.1 x.2))) = mag v := fold_max_eq_sup _ _
  pointwise [k0_pay3, k0_pay2]
  unfold kExp kCount
  rw [hm]

/-- The kernel's scale is the reference's. -/
theorem scale_eq (a : EReal) (h : Small a) :
    Ideal.ofBits FTy.f32 (IntOp.shli ArithUnit.vector (IntOp.addi (kExp a) 127#32) 23#32) = Ideal.exp2 (rExp a) := by
  obtain ⟨r, rfl, h0, h1⟩ := h
  have hb := expZ_bounds r h0 h1
  rw [kExp_eq r h0 h1, rExp_eq r h0 h1, exp2_int, scale_word _ (by omega) (by omega)]

/-- The kernel's inverse scale is the reference's. -/
theorem inv_eq (a : EReal) (h : Small a) :
    Ideal.ofBits FTy.f32 (IntOp.shli ArithUnit.vector (IntOp.addi (IntOp.subi (0#32) (kExp a)) 127#32) 23#32) = Ideal.exp2 (0 - rExp a) := by
  obtain ⟨r, rfl, h0, h1⟩ := h
  have hb := expZ_bounds r h0 h1
  rw [kExp_eq r h0 h1, rExp_eq r h0 h1, exp2_neg_int, inv_word _ (by omega) (by omega)]

/-- The codes stored for the products. -/
theorem pay8_apply (v : Vec Ideal S1x128x128 .bf16) (h : Small (mag v)) (i j : Fin 128) :
    k0_pay8 (k0_pay4 v) (ix2 i j) = clip (v (ix3 0 i j) * Ideal.exp2 (0 - rExp (mag v))) := by
  rw [← inv_eq _ h, ← pay3_apply v 0 0]
  pointwise [k0_pay8, k0_pay6, k0_pay4, k0_pay2]
  rfl

/-- The codes stored to the result. -/
theorem pay7_apply (v : Vec Ideal S1x128x128 .bf16) (h : Small (mag v)) (u : Fin 1) (i j : Fin 128) :
    k0_pay7 (k0_pay4 v) (ix3 u i j) = clip (v (ix3 0 i j) * Ideal.exp2 (0 - rExp (mag v))) := by
  rw [← inv_eq _ h, ← pay3_apply v 0 0]
  pointwise [k0_pay7, k0_pay6, k0_pay4, k0_pay2]
  rfl

/-- The scale stored to the result. -/
theorem pay9_apply (v : Vec Ideal S1x128x128 .bf16) (h : Small (mag v)) (a b c d : Fin 1) (i : Fin 128) :
    k0_pay9 (F := Ideal) (k0_pay3 v) (ix5 a b c d i) = Ideal.exp2 (rExp (mag v)) := by
  rw [← scale_eq _ h, ← pay3_apply v 0 0]
  pointwise [k0_pay9, k0_pay5]

/-- The value of the softmax scale's constant. -/
abbrev cScale : EReal := Ideal.ofBits FTy.f32 0x3DB504F3#32

/-- The kernel's constant named `log2e` is `1 / log 2`. -/
theorem named_log2e : (Named.named (F := Ideal) (φ := .f32) κ "log2e" 0x3FB8AA3B#32) = log2e :=
  IdealRules.named_const.ideal_named_scalar _ _ _ _ rfl

/-- The factors stored. -/
theorem pay10_apply (v : Vec Ideal S1x128x128 .bf16) (h : Small (mag v)) (ks : Vec Ideal S1x1x32x128 .f32) (n : Fin 32) (t : Fin 128) :
    k0_pay10 (F := Ideal) (k0_pay3 v) ks (ix2 n t) = Ideal.exp2 (rExp (mag v)) * ks (ix4 0 0 n t) * cScale * log2e := by
  rw [← scale_eq _ h, ← pay3_apply v 0 0, ← named_log2e]
  pointwise [k0_pay10, k0_pay5]

end Cert.KernelIdeal.Body

end
-- ==== Proof.Passes.lean ====
/- THE THREE PASSES OF ONE GRID POINT, read at an index: the maximum of each query row, the sum of its probabilities and its
   output, in the terms of Row.lean (`kOut`). -/
module

public import proofs.«01_k».proof.Proof.Quant

@[expose] public section

set_option synthInstance.maxSize 4096
set_option maxRecDepth 65536

noncomputable section

namespace Cert.KernelIdeal.Body

open Cert.KernelIdeal Cert.KernelIdeal.Gen Cert.Attn Idealize.ShloMosaic Idealize.SL.Sem

/-- The running maximum is at most `c` exactly when each scaled score so far is. -/
theorem mAcc_le (s : ℕ → FVec Ideal S128x512 .f32) (f : ℕ → FVec Ideal S1x512 .f32) (i : Fin 8) (j : Fin 512) (n : ℕ)
    (hf : ∀ k, k < n → 0 ≤ f k (ix2 0 j)) (c : EReal) :
    mAcc s f n (ix2 i j) ≤ c ↔ ∀ k, k < n → ∀ x : Fin 16, s k (ix2 ⟨x.val * 8 + i.val, by omega⟩ j) * f k (ix2 0 j) ≤ c := by
  induction n with
  | zero =>
    have : mAcc s f 0 (ix2 i j) = ⊥ := ofBits_ninf
    rw [this]
    simp
  | succ n ih =>
    have e : mAcc s f (n + 1) (ix2 i j) = max (mAcc s f n (ix2 i j))
        (Finset.univ.sup (fun x : Fin 16 => s n (ix2 ⟨x.val * 8 + i.val, by omega⟩ j)) * f n (ix2 0 j)) := by
      rw [← fold_max_eq_sup]
      pointwise [mAcc]
    rw [e, max_le_iff, ih fun k hk => hf k (by omega), sup_mul_le _ _ _ (hf n (by omega))]
    constructor
    · rintro ⟨h1, h2⟩ k hk x
      rcases Nat.lt_succ_iff_lt_or_eq.1 hk with h | rfl
      · exact h1 k h x
      · exact h2 x
    · intro h
      exact ⟨fun k hk x => h k (by omega) x, fun x => h n (by omega) x⟩

/-- The maximum of a query row is that of its scaled scores. -/
theorem mRow_apply (s : ℕ → FVec Ideal S128x512 .f32) (f : ℕ → FVec Ideal S1x512 .f32) (u : Fin 1) (j : Fin 512)
    (g : Fin 32 → EReal) (hg : ∀ n, 0 ≤ g n) (hf : ∀ n : Fin 32, f n.val (ix2 0 j) = g n * log2e) :
    mRow (mAcc s f 32) (ix2 u j) = rowMax (fun n t => s n.val (ix2 t j)) g * log2e := by
  have hL : 0 ≤ log2e := EReal.coe_nonneg.2 log2e_pos.le
  have hnn : ∀ k, k < 32 → 0 ≤ f k (ix2 0 j) := fun k hk => by
    rw [hf ⟨k, hk⟩]; exact mul_nonneg (hg _) hL
  have e : mRow (mAcc s f 32) (ix2 u j) = Finset.univ.sup (fun i : Fin 8 => mAcc s f 32 (ix2 i j)) := by
    rw [← fold_max_eq_sup]
    pointwise [mRow]
  rw [e]
  refine eq_of_forall_ge_iff fun c => ?_
  unfold rowMax
  rw [Finset.sup_le_iff, sup_mul_le _ _ _ hL]
  constructor
  · rintro h ⟨n, t⟩
    have := (mAcc_le s f ⟨t.val % 8, by omega⟩ j 32 hnn c).1 (h _ (Finset.mem_univ _)) n.val n.isLt ⟨t.val / 8, by omega⟩
    rw [hf n, ← mul_assoc] at this
    have ht : (⟨(⟨t.val / 8, by omega⟩ : Fin 16).val * 8 + (⟨t.val % 8, by omega⟩ : Fin 8).val, by omega⟩ : Fin 128) = t :=
      Fin.ext (by simp only; omega)
    rw [ht] at this
    exact this
  · intro h i _
    refine (mAcc_le s f i j 32 hnn c).2 fun k hk x => ?_
    have := h (⟨k, hk⟩, ⟨x.val * 8 + i.val, by omega⟩)
    rw [hf ⟨k, hk⟩, ← mul_assoc]
    exact this

/-- The running sum of one sublane. -/
theorem lAcc_apply (p : ℕ → FVec Ideal S128x512 .f32) (i : Fin 8) (j : Fin 512) (n : ℕ) :
    lAcc p n (ix2 i j) = ∑ k ∈ Finset.range n, ∑ x : Fin 16, p k (ix2 ⟨x.val * 8 + i.val, by omega⟩ j) := by
  induction n with
  | zero => exact Ideal.ofBits_zero_f32
  | succ n ih =>
    rw [Finset.sum_range_succ, ← ih]
    pointwise [lAcc]

/-- A sum over the rows of a block, by sublane. -/
theorem sum_sublanes (h : Fin 128 → EReal) : (∑ i : Fin 8, ∑ x : Fin 16, h ⟨x.val * 8 + i.val, by omega⟩) = ∑ t, h t := by
  rw [Finset.sum_comm, ← Fintype.sum_prod_type' (f := fun (x : Fin 16) (i : Fin 8) => h ⟨x.val * 8 + i.val, by omega⟩)]
  refine Fintype.sum_equiv (finProdFinEquiv (m := 16) (n := 8)) _ _ fun x => ?_
  congr 1
  apply Fin.ext
  simp [finProdFinEquiv]
  omega

/-- The sum of a query row's scaled probabilities, times its scale. -/
theorem lRow_apply (m : FVec Ideal S1x512 .f32) (p : ℕ → FVec Ideal S128x512 .f32) (u : Fin 1) (j : Fin 512) :
    lRow m (lAcc p 32) (ix2 u j) = (∑ n : Fin 32, ∑ t, p n.val (ix2 t j)) * pScale m (ix2 u j) := by
  have e : lRow m (lAcc p 32) (ix2 u j) = (∑ i : Fin 8, lAcc p 32 (ix2 i j)) * pScale m (ix2 u j) := by
    pointwise [lRow]
  rw [e]
  congr 1
  simp only [lAcc_apply]
  rw [Finset.sum_comm, Finset.sum_range]
  exact Finset.sum_congr rfl fun n _ => sum_sublanes fun t => p n.val (ix2 t j)

/-- The running output. -/
theorem oAcc_apply (v : ℕ → Vec Ideal S1x1x128x128 .fp8e4m3) (p : ℕ → Vec Ideal S128x512 .fp8e4m3) (vs : ℕ → Vec Ideal S1x1x1x1 .f32)
    (d : Fin 128) (j : Fin 512) (n : ℕ) :
    oAcc v p vs n (ix2 d j) = ∑ k ∈ Finset.range n, (∑ t : Fin 128, v k (ix4 0 0 d t) * p k (ix2 t j)) * vs k (ix4 0 0 0 0) := by
  induction n with
  | zero => exact Ideal.ofBits_zero_f32
  | succ n ih =>
    rw [Finset.sum_range_succ, ← ih]
    pointwise [oAcc]

/-- The exponent word of a row. -/
theorem pExp_apply (m : FVec Ideal S1x512 .f32) (u : Fin 1) (j : Fin 512) :
    pExp m (ix2 u j) = kExp (Ideal.exp2 (m (ix2 0 j) - m (ix2 0 j))) := by
  obtain rfl : u = 0 := Subsingleton.elim _ _
  pointwise [pExp]
  rfl

/-- The scale of a row. -/
theorem pScale_apply (m : FVec Ideal S1x512 .f32) (u : Fin 1) (j : Fin 512) :
    pScale m (ix2 u j) = kScale (m (ix2 0 j)) := by
  unfold kScale
  rw [← pExp_apply m u j]
  pointwise [pScale]

/-- The scaled probability of a score. -/
theorem pBlk_apply (m : FVec Ideal S1x512 .f32) (s : FVec Ideal S128x512 .f32) (f : FVec Ideal S1x512 .f32) (t : Fin 128) (j : Fin 512) :
    pBlk m s f (ix2 t j) = Ideal.exp2 (s (ix2 t j) * f (ix2 0 j)
      - (m (ix2 0 j) + (((kExp (Ideal.exp2 (m (ix2 0 j) - m (ix2 0 j)))).toInt : ℝ) : EReal))) := by
  rw [← pExp_apply m 0 j]
  pointwise [pBlk, pShift]
  rfl

/-- The code of a scaled probability. -/
theorem pCode_apply (p : FVec Ideal S128x512 .f32) (t : Fin 128) (j : Fin 512) : pCode p (ix2 t j) = clip (p (ix2 t j)) := by
  pointwise [pCode]
  rfl

/-- THE OUTPUT OF A QUERY ROW at one column of the values. -/
theorem oFin_apply (s : ℕ → FVec Ideal S128x512 .f32) (f : ℕ → FVec Ideal S1x512 .f32) (v : ℕ → Vec Ideal S1x1x128x128 .fp8e4m3)
    (vs : ℕ → Vec Ideal S1x1x1x1 .f32) (p : ℕ → FVec Ideal S128x512 .f32) (pc : ℕ → Vec Ideal S128x512 .fp8e4m3)
    (d : Fin 128) (j : Fin 512) (g : Fin 32 → EReal) (hg : ∀ n, 0 ≤ g n)
    (hf : ∀ n : Fin 32, f n.val (ix2 0 j) = g n * log2e)
    (hp : ∀ n : Fin 32, ∀ t : Fin 128, p n.val (ix2 t j) = pBlk (mRow (mAcc s f 32)) (s n.val) (f n.val) (ix2 t j))
    (hpc : ∀ n : Fin 32, ∀ t : Fin 128, pc n.val (ix2 t j) = pCode (p n.val) (ix2 t j)) :
    oFin (mRow (mAcc s f 32)) (lAcc p 32) (oAcc v pc vs 32) (ix2 d j)
      = rowOut (fun n t => s n.val (ix2 t j)) g (fun n t => v n.val (ix4 0 0 d t)) (fun n => vs n.val (ix4 0 0 0 0)) := by
  have e : oFin (mRow (mAcc s f 32)) (lAcc p 32) (oAcc v pc vs 32) (ix2 d j)
      = oAcc v pc vs 32 (ix2 d j) * Ideal.div (pScale (mRow (mAcc s f 32)) (ix2 0 j)) (lRow (mRow (mAcc s f 32)) (lAcc p 32) (ix2 0 j)) := by
    pointwise [oFin]
  have hm := mRow_apply s f 0 j g hg hf
  have hk : ∀ (n : Fin 32) (t : Fin 128), p n.val (ix2 t j)
      = kProb (fun n t => s n.val (ix2 t j)) (fun n => f n.val (ix2 0 j)) (mRow (mAcc s f 32) (ix2 0 j)) n t := fun n t => by
    rw [hp n t, pBlk_apply]; rfl
  rw [e, lRow_apply, oAcc_apply, pScale_apply, Finset.sum_range,
    ← kOut_eq (fun n t => s n.val (ix2 t j)) g (fun n => f n.val (ix2 0 j)) _ (fun n t => v n.val (ix4 0 0 d t))
      (fun n => vs n.val (ix4 0 0 0 0)) hf hm]
  unfold kOut
  simp only [hpc, pCode_apply, hk]

end Cert.KernelIdeal.Body

end
-- ==== Proof.Open.lean ====
/- THE BODY OPENED: each buffer's stores and each pass's last value, as the run found them, are those of Body.lean. -/
module

public import proofs.«01_k».proof.Proof.Body

@[expose] public section

set_option synthInstance.maxSize 4096
set_option maxRecDepth 65536

noncomputable section

namespace Cert.KernelIdeal.Body

open Cert.KernelIdeal Cert.KernelIdeal.Gen Idealize.ShloMosaic Idealize.SL.Sem

variable {F : FTy → Type} [FloatOps F] [Named F]
variable (c : Dev nD) (i : grid0.Coords) (arg3 : Memref sig .tc .vmem S1x128x512 .bf16) (harg3 : arg3.IsWhole) (arg4 : Memref sig .tc .vmem S1x4096x128 .fp8e4m3) (harg4 : arg4.IsWhole) (arg5 : Memref sig .tc .vmem S1x1x128x4096 .fp8e4m3) (harg5 : arg5.IsWhole) (arg6 : Memref sig .tc .vmem S1x1x32x128 .f32) (harg6 : arg6.IsWhole) (arg7 : Memref sig .tc .vmem S1x1x32x128 .f32) (harg7 : arg7.IsWhole) (arg8 : Memref sig .tc .vmem S1x128x512 .bf16) (harg8 : arg8.IsWhole) (arg9 : Memref sig .tc .vmem S1x128x512 .fp8e4m3) (harg9 : arg9.IsWhole) (arg10 : Memref sig .tc .vmem S1x1x1x4x128 .f32) (harg10 : arg10.IsWhole) (arg11 : Memref sig .tc .vmem S512x128 .fp8e4m3) (harg11 : arg11.IsWhole) (arg12 : Memref sig .tc .vmem S32x512 .f32) (harg12 : arg12.IsWhole) (arg13 : Memref sig .tc .vmem S4096x512 .f32) (harg13 : arg13.IsWhole) (arg14 : Memref sig .tc .vmem S4096x512 .fp8e4m3) (harg14 : arg14.IsWhole)
  (x0 : Vec F S1x128x512 .bf16) (x1 : Vec F S1x4096x128 .fp8e4m3) (x2 : Vec F S1x1x128x4096 .fp8e4m3) (x3 : Vec F S1x1x32x128 .f32) (x4 : Vec F S1x1x32x128 .f32)

/-- The rectangle of query head `g` of the block. -/
theorem inb_x (g : ℕ) : ∀ a, (![0, 0, 128 * (g % 4)] : Fin 3 → ℕ) a + S1x128x128.size a ≤ S1x128x512.size a := by
  have h : g % 4 < 4 := Nat.mod_lt _ (by decide)
  intro a; fin_cases a <;> simp [S1x128x128, S1x128x512] <;> omega
/-- The rectangle of query head `g` of the block. -/
abbrev rectX (g : ℕ) : Rect S1x128x512 := Rect.unit ![0, 0, 128 * (g % 4)] S1x128x128.size (inb_x g)

/-- The loads of the query block's heads. -/
abbrev xld (g : ℕ) : Vec F S1x128x128 .bf16 := View.readAt (Elt F) arg3.view (rectX g).toLoadRect (harg3.unread x0)
/-- The load of the key scales. -/
abbrev ksld : Vec F S1x1x32x128 .f32 := View.readAt (Elt F) arg6.view rectKs.toLoadRect (harg6.unread x3)

theorem HS0_eq : kernelRun0_A.sl.HS0_4 c arg3 harg3 x0 = qPieces (xld arg3 harg3 x0) := rfl
theorem HS1_eq : kernelRun0_A.sl.HS1_4 c arg3 harg3 arg6 harg6 x0 x3 = fPieces (xld arg3 harg3 x0) (ksld arg6 harg6 x3) := rfl

/-- The load of the query codes. -/
abbrev qld : Vec F S512x128 .fp8e4m3 := arg11.view.readCov (kernelRun0_A.sl.HS0_4 c arg3 harg3 x0) rectQ.toLoadRect
/-- The scores of block `n` over the loads. -/
abbrev sld (n : ℕ) : FVec F S128x512 .f32 :=
  sBlk (qld c arg3 harg3 arg11 x0) (View.readAt (Elt F) arg4.view (rectK n).toLoadRect (harg4.unread x1))
/-- The load of the factors of block `n`. -/
abbrev fld (n : ℕ) : Vec F S1x512 .f32 :=
  arg12.view.readCov (kernelRun0_A.sl.HS1_4 c arg3 harg3 arg6 harg6 x0 x3) (rectF n).toLoadRect

theorem HS2_eq : kernelRun0_A.sl.HS2_32 c arg3 harg3 arg4 harg4 arg11 x0 x1 = sPieces (sld c arg3 harg3 arg4 harg4 arg11 x0 x1) 32 := rfl

theorem m8_eq : kernelRun0_A.sl.v708 c arg3 harg3 arg4 harg4 arg6 harg6 arg11 arg12 x0 x1 x3
    = mAcc (sld c arg3 harg3 arg4 harg4 arg11 x0 x1) (fld c arg3 harg3 arg6 harg6 arg12 x0 x3) 32 := rfl
theorem m_eq : kernelRun0_A.sl.v710 c arg3 harg3 arg4 harg4 arg6 harg6 arg11 arg12 x0 x1 x3
    = mRow (kernelRun0_A.sl.v708 c arg3 harg3 arg4 harg4 arg6 harg6 arg11 arg12 x0 x1 x3) := rfl

/-- The scaled probabilities of block `n` over the loads. -/
abbrev pld (n : ℕ) : FVec F S128x512 .f32 :=
  pBlk (kernelRun0_A.sl.v710 c arg3 harg3 arg4 harg4 arg6 harg6 arg11 arg12 x0 x1 x3)
    (arg13.view.readCov (kernelRun0_A.sl.HS2_32 c arg3 harg3 arg4 harg4 arg11 x0 x1) (rectS n).toLoadRect)
    (fld c arg3 harg3 arg6 harg6 arg12 x0 x3 n)

theorem HS3_eq : kernelRun0_A.sl.HS3_32 c arg3 harg3 arg4 harg4 arg6 harg6 arg11 arg12 arg13 x0 x1 x3
    = pPieces (pld c arg3 harg3 arg4 harg4 arg6 harg6 arg11 arg12 arg13 x0 x1 x3) 32 := rfl
theorem l8_eq : kernelRun0_A.sl.v1311 c arg3 harg3 arg4 harg4 arg6 harg6 arg11 arg12 arg13 x0 x1 x3
    = lAcc (pld c arg3 harg3 arg4 harg4 arg6 harg6 arg11 arg12 arg13 x0 x1 x3) 32 := rfl

theorem o_eq : kernelRun0_A.sl.v1614 c arg3 harg3 arg4 harg4 arg5 harg5 arg6 harg6 arg7 harg7 arg11 arg12 arg13 arg14 x0 x1 x2 x3 x4
    = oFin (kernelRun0_A.sl.v710 c arg3 harg3 arg4 harg4 arg6 harg6 arg11 arg12 x0 x1 x3)
        (kernelRun0_A.sl.v1311 c arg3 harg3 arg4 harg4 arg6 harg6 arg11 arg12 arg13 x0 x1 x3)
        (oAcc (fun n => View.readAt (Elt F) arg5.view (rectV n).toLoadRect (harg5.unread x2))
          (fun n => arg14.view.readCov (kernelRun0_A.sl.HS3_32 c arg3 harg3 arg4 harg4 arg6 harg6 arg11 arg12 arg13 x0 x1 x3) (rectS n).toLoadRect)
          (fun n => View.readAt (Elt F) arg7.view (rectVs n).toLoadRect (harg7.unread x4)) 32) := rfl

/-- The stores to the output block. -/
theorem L5_eq : (kernelRun0_A c i arg3 harg3 arg4 harg4 arg5 harg5 arg6 harg6 arg7 harg7 arg8 harg8 arg9 harg9 arg10 harg10 arg11 harg11 arg12 harg12 arg13 harg13 arg14 harg14 x0 x1 x2 x3 x4).1
    = [⟨Rect.unit ![0, 0, 384] S1x128x128.size inb_S1x128x512_S1x128x128_0_0_384, yPart (kernelRun0_A.sl.v1614 c arg3 harg3 arg4 harg4 arg5 harg5 arg6 harg6 arg7 harg7 arg11 arg12 arg13 arg14 x0 x1 x2 x3 x4) ![0, 384] slices_S128x512_o0_384_S128x128⟩,
       ⟨Rect.unit ![0, 0, 256] S1x128x128.size inb_S1x128x512_S1x128x128_0_0_256, yPart (kernelRun0_A.sl.v1614 c arg3 harg3 arg4 harg4 arg5 harg5 arg6 harg6 arg7 harg7 arg11 arg12 arg13 arg14 x0 x1 x2 x3 x4) ![0, 256] slices_S128x512_o0_256_S128x128⟩,
       ⟨Rect.unit ![0, 0, 128] S1x128x128.size inb_S1x128x512_S1x128x128_0_0_128, yPart (kernelRun0_A.sl.v1614 c arg3 harg3 arg4 harg4 arg5 harg5 arg6 harg6 arg7 harg7 arg11 arg12 arg13 arg14 x0 x1 x2 x3 x4) ![0, 128] slices_S128x512_o0_128_S128x128⟩,
       ⟨Rect.unit ![0, 0, 0] S1x128x128.size inb_S1x128x512_S1x128x128_0_0_0, yPart (kernelRun0_A.sl.v1614 c arg3 harg3 arg4 harg4 arg5 harg5 arg6 harg6 arg7 harg7 arg11 arg12 arg13 arg14 x0 x1 x2 x3 x4) ![0, 0] slices_S128x512_o0_0_S128x128⟩] := rfl

/-- The stores to the block of query codes. -/
theorem L6_eq : (kernelRun0_A c i arg3 harg3 arg4 harg4 arg5 harg5 arg6 harg6 arg7 harg7 arg8 harg8 arg9 harg9 arg10 harg10 arg11 harg11 arg12 harg12 arg13 harg13 arg14 harg14 x0 x1 x2 x3 x4).2.1
    = [⟨Rect.unit ![0, 0, 384] S1x128x128.size inb_S1x128x512_S1x128x128_0_0_384, k0_pay7 (k0_pay4 (xld arg3 harg3 x0 3))⟩,
       ⟨Rect.unit ![0, 0, 256] S1x128x128.size inb_S1x128x512_S1x128x128_0_0_256, k0_pay7 (k0_pay4 (xld arg3 harg3 x0 2))⟩,
       ⟨Rect.unit ![0, 0, 128] S1x128x128.size inb_S1x128x512_S1x128x128_0_0_128, k0_pay7 (k0_pay4 (xld arg3 harg3 x0 1))⟩,
       ⟨Rect.unit ![0, 0, 0] S1x128x128.size inb_S1x128x512_S1x128x128_0_0_0, k0_pay7 (k0_pay4 (xld arg3 harg3 x0 0))⟩] := rfl

/-- The stores to the block of query scales. -/
theorem L7_eq : (kernelRun0_A c i arg3 harg3 arg4 harg4 arg5 harg5 arg6 harg6 arg7 harg7 arg8 harg8 arg9 harg9 arg10 harg10 arg11 harg11 arg12 harg12 arg13 harg13 arg14 harg14 x0 x1 x2 x3 x4).2.2.1
    = [⟨Rect.unit ![0, 0, 0, 3, 0] S1x1x1x1x128.size inb_S1x1x1x4x128_S1x1x1x1x128_0_0_0_3_0, k0_pay9 (k0_pay3 (xld arg3 harg3 x0 3))⟩,
       ⟨Rect.unit ![0, 0, 0, 2, 0] S1x1x1x1x128.size inb_S1x1x1x4x128_S1x1x1x1x128_0_0_0_2_0, k0_pay9 (k0_pay3 (xld arg3 harg3 x0 2))⟩,
       ⟨Rect.unit ![0, 0, 0, 1, 0] S1x1x1x1x128.size inb_S1x1x1x4x128_S1x1x1x1x128_0_0_0_1_0, k0_pay9 (k0_pay3 (xld arg3 harg3 x0 1))⟩,
       ⟨Rect.unit ![0, 0, 0, 0, 0] S1x1x1x1x128.size inb_S1x1x1x4x128_S1x1x1x1x128_0_0_0_0_0, k0_pay9 (k0_pay3 (xld arg3 harg3 x0 0))⟩] := rfl

end Cert.KernelIdeal.Body

end
-- ==== Proof.Stores.lean ====
/- WHAT THE SCRATCH BUFFERS READ BACK: the query codes, the factors, the scores and the probabilities' codes, as a function of the
   index, whatever the order of the stores. -/
module

public import proofs.«01_k».proof.Proof.Passes
public import proofs.«01_k».proof.Proof.Open
public import Idealize.ShloMosaic.Lib.WholeRead
public import Idealize.ShloMosaic.Lib.Pipeline.Value

@[expose] public section

set_option synthInstance.maxSize 4096
set_option maxRecDepth 65536

noncomputable section

namespace Cert.KernelIdeal.Body

open Cert.KernelIdeal Cert.KernelIdeal.Gen Cert.Attn Idealize.ShloMosaic Idealize.SL.Sem

/-- A load of a buffer whose stores all agree with one function of the index reads that function. -/
theorem readCov_of_pieces {sig : RefSig} {κ : Kind} {sp : Space} {s : Shape} {e : EltTy} (v : View sig κ sp s e)
    (L : List (View.Piece (Elt Ideal) s e)) (G : s.Idx → Elt Ideal e) (hL : ∀ p ∈ L, ∀ x : p.1.shape.Idx, p.2 x = G (p.1.emb x))
    (B : Rect s) (x : B.shape.Idx) (hy : ∃ p ∈ L, B.idx x ∈ p.1.set) :
    v.readCov L B.toLoadRect x = G (B.idx x) := by
  rw [View.readCov_eq_canon']
  exact View.canon_apply_of_pieces G L hL _ hy

/-- A cast of a block to its own shape is the block. -/
theorem cast_self {α : Type} (x : S128x512.Idx → α) (h : S128x512.ShapeCasts S128x512) : shapeCast S128x512 x h = x := by
  funext j
  exact shapeCast_apply x h j j rfl

/-! ## The scores and the probabilities' codes -/

/-- Blocks of rows stored, the last block first. -/
def rowPieces {e : EltTy} (s : ℕ → S128x512.Idx → Elt Ideal e) : ℕ → List (View.Piece (Elt Ideal) S4096x512 e)
  | 0 => []
  | n + 1 => ⟨rectS n, s n⟩ :: rowPieces s n

/-- The blocks of rows as one array. -/
def rowsOf {e : EltTy} (s : ℕ → S128x512.Idx → Elt Ideal e) : S4096x512.Idx → Elt Ideal e :=
  fun i => s ((i 0).val / 128) (ix2 ⟨(i 0).val % 128, Nat.mod_lt _ (by decide)⟩ (i 1))

theorem sPieces_eq (s : ℕ → FVec Ideal S128x512 .f32) (n : ℕ) : sPieces s n = rowPieces (e := .f32) s n := by
  induction n with
  | zero => rfl
  | succ n ih => rw [sPieces, rowPieces, ih, cast_self]

theorem pPieces_eq (p : ℕ → FVec Ideal S128x512 .f32) (n : ℕ) :
    pPieces p n = rowPieces (e := .fp8e4m3) (fun k => pCode (p k)) n := by
  induction n with
  | zero => rfl
  | succ n ih => rw [pPieces, rowPieces, ih, cast_self]

/-- Row `128 n + r` of the array is row `r` of block `n`. -/
theorem rowsOf_emb {e : EltTy} (s : ℕ → S128x512.Idx → Elt Ideal e) (n : ℕ) (hn : n < 32) (x : S128x512.Idx) (i : S4096x512.Idx)
    (h0 : (i 0).val = 128 * (n % 32) + 1 * (x 0).val) (h1 : (i 1).val = 0 + 1 * (x 1).val) : rowsOf s i = s n x := by
  have hx : (x 0).val < 128 := (x 0).isLt
  have hd : (i 0).val / 128 = n := by omega
  have hmod : (i 0).val % 128 = (x 0).val := by omega
  unfold rowsOf
  rw [hd]
  congr 1
  funext a
  apply Fin.ext
  match a with
  | ⟨0, _⟩ => exact hmod
  | ⟨1, _⟩ => show (i 1).val = (x 1).val; omega

/-- Every store agrees with the array. -/
theorem rowPieces_agree {e : EltTy} (s : ℕ → S128x512.Idx → Elt Ideal e) (n : ℕ) (hn : n ≤ 32) :
    ∀ p ∈ rowPieces s n, ∀ x : p.1.shape.Idx, p.2 x = rowsOf s (p.1.emb x) := by
  induction n with
  | zero => intro p hp; simp [rowPieces] at hp
  | succ n ih =>
    intro p hp
    rcases List.mem_cons.1 hp with rfl | hp
    · intro x
      exact (rowsOf_emb s n (by omega) x ((rectS n).emb x) rfl rfl).symm
    · exact ih (by omega) p hp

/-- Every row below `128 n` is stored. -/
theorem rowPieces_cover {e : EltTy} (s : ℕ → S128x512.Idx → Elt Ideal e) (n : ℕ) (hn : n ≤ 32) (i : S4096x512.Idx)
    (hi : (i 0).val < 128 * n) : ∃ p ∈ rowPieces s n, i ∈ p.1.set := by
  induction n with
  | zero => omega
  | succ n ih =>
    by_cases h : (i 0).val < 128 * n
    · obtain ⟨p, hp, hm⟩ := ih (by omega) h
      exact ⟨p, List.mem_cons_of_mem _ hp, hm⟩
    · refine ⟨_, List.mem_cons_self, ?_⟩
      rw [Rect.mem_set_unit]
      have h1 : (i 1).val < 512 := (i 1).isLt
      intro a
      match a with
      | ⟨0, _⟩ =>
        show 128 * (n % 32) ≤ (i 0).val ∧ (i 0).val < 128 * (n % 32) + 128
        omega
      | ⟨1, _⟩ => show 0 ≤ (i 1).val ∧ (i 1).val < 0 + 512; omega

/-- Block `n`, read back. -/
theorem readCov_rowPieces {sig : RefSig} {κ : Kind} {sp : Space} {e : EltTy} (v : View sig κ sp S4096x512 e)
    (s : ℕ → S128x512.Idx → Elt Ideal e) (n : ℕ) (hn : n < 32) : v.readCov (rowPieces s 32) (rectS n).toLoadRect = s n := by
  funext x
  have h0 : (x 0).val < 128 := (x 0).isLt
  have e0 : ((rectS n).idx x 0).val = 128 * (n % 32) + 1 * (x 0).val := rfl
  exact (readCov_of_pieces v _ (rowsOf s) (rowPieces_agree s 32 le_rfl) (rectS n) x
    (rowPieces_cover s 32 le_rfl _ (by rw [e0]; omega))).trans (rowsOf_emb s n hn x _ rfl rfl)

/-! ## The query codes and the factors -/

/-- The stored query codes as one array: row `128 g + t` is row `t` of head `g`. -/
def qRows (xs : ℕ → Vec Ideal S1x128x128 .bf16) : S512x128.Idx → Elt Ideal .fp8e4m3 :=
  fun i => k0_pay8 (k0_pay4 (xs ((i 0).val / 128))) (ix2 ⟨(i 0).val % 128, Nat.mod_lt _ (by decide)⟩ (i 1))

theorem qRows_emb (xs : ℕ → Vec Ideal S1x128x128 .bf16) (g : ℕ) (x : S128x128.Idx) (i : S512x128.Idx)
    (h0 : (i 0).val = 128 * g + 1 * (x 0).val) (h1 : (i 1).val = 0 + 1 * (x 1).val) :
    k0_pay8 (k0_pay4 (xs g)) x = qRows xs i := by
  have hx : (x 0).val < 128 := (x 0).isLt
  have hd : (i 0).val / 128 = g := by omega
  have hmod : (i 0).val % 128 = (x 0).val := by omega
  unfold qRows
  rw [hd]
  congr 1
  funext a
  apply Fin.ext
  match a with
  | ⟨0, _⟩ => exact hmod.symm
  | ⟨1, _⟩ => show (x 1).val = (i 1).val; omega

theorem qPieces_agree (xs : ℕ → Vec Ideal S1x128x128 .bf16) :
    ∀ p ∈ qPieces xs, ∀ x : p.1.shape.Idx, p.2 x = qRows xs (p.1.emb x) := by
  intro p hp
  simp only [qPieces, List.mem_cons, List.mem_nil_iff, or_false] at hp
  rcases hp with rfl | rfl | rfl | rfl
  · exact fun x => qRows_emb xs 3 x _ rfl rfl
  · exact fun x => qRows_emb xs 2 x _ rfl rfl
  · exact fun x => qRows_emb xs 1 x _ rfl rfl
  · exact fun x => qRows_emb xs 0 x _ rfl rfl

theorem qPieces_cover (xs : ℕ → Vec Ideal S1x128x128 .bf16) (i : S512x128.Idx) : ∃ p ∈ qPieces xs, i ∈ p.1.set := by
  have h0 : (i 0).val < 512 := (i 0).isLt
  have h1 : (i 1).val < 128 := (i 1).isLt
  have key : ∀ (o : ℕ) (h : ∀ a, (![o, 0] : Fin 2 → ℕ) a + S128x128.size a ≤ S512x128.size a), o ≤ (i 0).val → (i 0).val < o + 128 →
      i ∈ (Rect.unit (s := S512x128) ![o, 0] S128x128.size h).set := by
    intro o h ha hb
    rw [Rect.mem_set_unit]
    intro a
    match a with
    | ⟨0, _⟩ => exact ⟨ha, hb⟩
    | ⟨1, _⟩ => show 0 ≤ (i 1).val ∧ (i 1).val < 0 + 128; omega
  by_cases c3 : 384 ≤ (i 0).val
  · refine ⟨_, List.mem_cons_self, ?_⟩
    exact key 384 inb_S512x128_S128x128_384_0 c3 (by omega)
  by_cases c2 : 256 ≤ (i 0).val
  · refine ⟨_, (List.mem_cons_of_mem _ List.mem_cons_self), ?_⟩
    exact key 256 inb_S512x128_S128x128_256_0 c2 (by omega)
  by_cases c1 : 128 ≤ (i 0).val
  · refine ⟨_, (List.mem_cons_of_mem _ (List.mem_cons_of_mem _ List.mem_cons_self)), ?_⟩
    exact key 128 inb_S512x128_S128x128_128_0 c1 (by omega)
  · refine ⟨_, (List.mem_cons_of_mem _ (List.mem_cons_of_mem _ (List.mem_cons_of_mem _ List.mem_cons_self))), ?_⟩
    exact key 0 inb_S512x128_S128x128_0_0 (by omega) (by omega)

/-- The query codes, read back whole. -/
theorem readCov_qPieces {sig : RefSig} {κ : Kind} {sp : Space} (v : View sig κ sp S512x128 .fp8e4m3)
    (xs : ℕ → Vec Ideal S1x128x128 .bf16) (g : ℕ) (t d : Fin 128) (r : Fin 512) (hr : r.val = 128 * g + t.val) :
    v.readCov (qPieces xs) rectQ.toLoadRect (ix2 r d) = k0_pay8 (k0_pay4 (xs g)) (ix2 t d) := by
  refine (readCov_of_pieces v _ (qRows xs) (qPieces_agree xs) rectQ (ix2 r d) (qPieces_cover xs _)).trans ?_
  refine (qRows_emb xs g (ix2 t d) _ ?_ ?_).symm
  · show 0 + 1 * r.val = 128 * g + 1 * t.val; omega
  · show 0 + 1 * d.val = 0 + 1 * d.val; rfl

/-- The stored factors as one array: column `128 g + t` is column `t` of head `g`. -/
def fCols (xs : ℕ → Vec Ideal S1x128x128 .bf16) (ks : Vec Ideal S1x1x32x128 .f32) : S32x512.Idx → Elt Ideal .f32 :=
  fun i => k0_pay10 (k0_pay3 (xs ((i 1).val / 128))) ks (ix2 (i 0) ⟨(i 1).val % 128, Nat.mod_lt _ (by decide)⟩)

theorem fCols_emb (xs : ℕ → Vec Ideal S1x128x128 .bf16) (ks : Vec Ideal S1x1x32x128 .f32) (g : ℕ) (x : S32x128.Idx) (i : S32x512.Idx)
    (h0 : (i 0).val = 0 + 1 * (x 0).val) (h1 : (i 1).val = 128 * g + 1 * (x 1).val) :
    k0_pay10 (k0_pay3 (xs g)) ks x = fCols xs ks i := by
  have hx : (x 1).val < 128 := (x 1).isLt
  have hd : (i 1).val / 128 = g := by omega
  have hmod : (i 1).val % 128 = (x 1).val := by omega
  unfold fCols
  rw [hd]
  congr 1
  funext a
  apply Fin.ext
  match a with
  | ⟨0, _⟩ => show (x 0).val = (i 0).val; omega
  | ⟨1, _⟩ => exact hmod.symm

theorem fPieces_agree (xs : ℕ → Vec Ideal S1x128x128 .bf16) (ks : Vec Ideal S1x1x32x128 .f32) :
    ∀ p ∈ fPieces xs ks, ∀ x : p.1.shape.Idx, p.2 x = fCols xs ks (p.1.emb x) := by
  intro p hp
  simp only [fPieces, List.mem_cons, List.mem_nil_iff, or_false] at hp
  rcases hp with rfl | rfl | rfl | rfl
  · exact fun x => fCols_emb xs ks 3 x _ rfl rfl
  · exact fun x => fCols_emb xs ks 2 x _ rfl rfl
  · exact fun x => fCols_emb xs ks 1 x _ rfl rfl
  · exact fun x => fCols_emb xs ks 0 x _ rfl rfl

theorem fPieces_cover (xs : ℕ → Vec Ideal S1x128x128 .bf16) (ks : Vec Ideal S1x1x32x128 .f32) (i : S32x512.Idx) :
    ∃ p ∈ fPieces xs ks, i ∈ p.1.set := by
  have h0 : (i 0).val < 32 := (i 0).isLt
  have h1 : (i 1).val < 512 := (i 1).isLt
  have key : ∀ (o : ℕ) (h : ∀ a, (![0, o] : Fin 2 → ℕ) a + S32x128.size a ≤ S32x512.size a), o ≤ (i 1).val → (i 1).val < o + 128 →
      i ∈ (Rect.unit (s := S32x512) ![0, o] S32x128.size h).set := by
    intro o h ha hb
    rw [Rect.mem_set_unit]
    intro a
    match a with
    | ⟨0, _⟩ => show 0 ≤ (i 0).val ∧ (i 0).val < 0 + 32; omega
    | ⟨1, _⟩ => exact ⟨ha, hb⟩
  by_cases c3 : 384 ≤ (i 1).val
  · refine ⟨_, List.mem_cons_self, ?_⟩
    exact key 384 inb_S32x512_S32x128_0_384 c3 (by omega)
  by_cases c2 : 256 ≤ (i 1).val
  · refine ⟨_, (List.mem_cons_of_mem _ List.mem_cons_self), ?_⟩
    exact key 256 inb_S32x512_S32x128_0_256 c2 (by omega)
  by_cases c1 : 128 ≤ (i 1).val
  · refine ⟨_, (List.mem_cons_of_mem _ (List.mem_cons_of_mem _ List.mem_cons_self)), ?_⟩
    exact key 128 inb_S32x512_S32x128_0_128 c1 (by omega)
  · refine ⟨_, (List.mem_cons_of_mem _ (List.mem_cons_of_mem _ (List.mem_cons_of_mem _ List.mem_cons_self))), ?_⟩
    exact key 0 inb_S32x512_S32x128_0_0 (by omega) (by omega)

/-- The factors of block `n`, read back. -/
theorem readCov_fPieces {sig : RefSig} {κ : Kind} {sp : Space} (v : View sig κ sp S32x512 .f32)
    (xs : ℕ → Vec Ideal S1x128x128 .bf16) (ks : Vec Ideal S1x1x32x128 .f32) (n : Fin 32) (g : ℕ) (t : Fin 128) (r : Fin 512)
    (hr : r.val = 128 * g + t.val) :
    v.readCov (fPieces xs ks) (rectF n.val).toLoadRect (ix2 0 r) = k0_pay10 (k0_pay3 (xs g)) ks (ix2 n t) := by
  refine (readCov_of_pieces v _ (fCols xs ks) (fPieces_agree xs ks) (rectF n.val) (ix2 0 r) (fPieces_cover xs ks _)).trans ?_
  refine (fCols_emb xs ks g (ix2 n t) _ ?_ ?_).symm
  · show n.val % 32 + 1 * 0 = 0 + 1 * n.val; have := n.isLt; omega
  · show 0 + 1 * r.val = 128 * g + 1 * t.val; omega

end Cert.KernelIdeal.Body

end
-- ==== Proof.Block.lean ====
/- WHAT ONE GRID POINT WRITES, index by index: the output block, the block of query codes and the block of query scales. -/
module

public import proofs.«01_k».proof.Proof.Stores

@[expose] public section

set_option synthInstance.maxSize 4096
set_option maxRecDepth 65536

noncomputable section

namespace Cert.KernelIdeal.Body

open Cert.KernelIdeal Cert.KernelIdeal.Gen Cert.Attn Idealize.ShloMosaic Idealize.SL.Sem

variable (c : Dev nD) (i : grid0.Coords) (arg3 : Memref sig .tc .vmem S1x128x512 .bf16) (harg3 : arg3.IsWhole) (arg4 : Memref sig .tc .vmem S1x4096x128 .fp8e4m3) (harg4 : arg4.IsWhole) (arg5 : Memref sig .tc .vmem S1x1x128x4096 .fp8e4m3) (harg5 : arg5.IsWhole) (arg6 : Memref sig .tc .vmem S1x1x32x128 .f32) (harg6 : arg6.IsWhole) (arg7 : Memref sig .tc .vmem S1x1x32x128 .f32) (harg7 : arg7.IsWhole) (arg8 : Memref sig .tc .vmem S1x128x512 .bf16) (harg8 : arg8.IsWhole) (arg9 : Memref sig .tc .vmem S1x128x512 .fp8e4m3) (harg9 : arg9.IsWhole) (arg10 : Memref sig .tc .vmem S1x1x1x4x128 .f32) (harg10 : arg10.IsWhole) (arg11 : Memref sig .tc .vmem S512x128 .fp8e4m3) (harg11 : arg11.IsWhole) (arg12 : Memref sig .tc .vmem S32x512 .f32) (harg12 : arg12.IsWhole) (arg13 : Memref sig .tc .vmem S4096x512 .f32) (harg13 : arg13.IsWhole) (arg14 : Memref sig .tc .vmem S4096x512 .fp8e4m3) (harg14 : arg14.IsWhole)
  (x0 : Vec Ideal S1x128x512 .bf16) (x1 : Vec Ideal S1x4096x128 .fp8e4m3) (x2 : Vec Ideal S1x1x128x4096 .fp8e4m3) (x3 : Vec Ideal S1x1x32x128 .f32) (x4 : Vec Ideal S1x1x32x128 .f32)

/-- Query head `g` of the block. -/
def head (x0 : Vec Ideal S1x128x512 .bf16) (g : ℕ) : Vec Ideal S1x128x128 .bf16 :=
  fun i => x0 (ix3 0 (i 1) ⟨128 * (g % 4) + (i 2).val, by have := (i 2).isLt; have h : (i 2).val < 128 := this; have := Nat.mod_lt g (y := 4) (by decide); omega⟩)

/-- A power of two is nonnegative. -/
theorem exp2_nonneg (x : EReal) : 0 ≤ Ideal.exp2 x := by
  induction x using EReal.rec with
  | bot => exact le_rfl
  | top => exact le_top
  | coe r => exact EReal.coe_nonneg.2 (Real.rpow_nonneg (by norm_num) r)

/-- The constant `1 / sqrt 128` as the kernel writes it is nonnegative. -/
theorem cScale_nonneg : 0 ≤ cScale := by
  have e : cScale = (((11863283 : ℝ) * (2 : ℝ) ^ (-27 : ℤ) : ℝ) : EReal) := by
    simp [Ideal.ofBits, Ideal.ieee]
  rw [e]
  exact EReal.coe_nonneg.2 (by positivity)

/-- A head's load is the head. -/
theorem xld_eq (g : ℕ) : xld arg3 harg3 x0 g = head x0 g := by
  funext x
  refine (harg3.readAt_unread x0 (rectX g).toLoadRect x).trans ?_
  unfold head
  congr 1
  funext a
  apply Fin.ext
  have h0 : (x 0).val < 1 := (x 0).isLt
  match a with
  | ⟨0, _⟩ => show 0 + 1 * (x 0).val = 0; omega
  | ⟨1, _⟩ => show 0 + 1 * (x 1).val = (x 1).val; omega
  | ⟨2, _⟩ => show 128 * (g % 4) + 1 * (x 2).val = 128 * (g % 4) + (x 2).val; omega

/-- The key scales' load is the block. -/
theorem ksld_eq : ksld arg6 harg6 x3 = x3 := by
  funext x
  refine (harg6.readAt_unread x3 rectKs.toLoadRect x).trans ?_
  congr 1
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

/-- The scale of query head `g`. -/
def hScale (x0 : Vec Ideal S1x128x512 .bf16) (g : ℕ) : EReal := Ideal.exp2 (rExp (mag (head x0 g)))
/-- The code of query head `g` at row `t`, column `d`. -/
def hCode (x0 : Vec Ideal S1x128x512 .bf16) (g : ℕ) (t d : Fin 128) : EReal :=
  clip (head x0 g (ix3 0 t d) * Ideal.exp2 (0 - rExp (mag (head x0 g))))

/-- The products of a block of keys with the query codes. -/
theorem sBlk_apply (q : Vec Ideal S512x128 .fp8e4m3) (k : Vec Ideal S1x128x128 .fp8e4m3) (a : Fin 128) (j : Fin 512) :
    sBlk q k (ix2 a j) = ∑ x : Fin 128, k (ix3 0 a x) * q (ix2 j x) := by
  pointwise [sBlk]

/-- A key block's load. -/
theorem kld_apply (n : Fin 32) (a x : Fin 128) :
    View.readAt (Elt Ideal) arg4.view (rectK n.val).toLoadRect (harg4.unread x1) (ix3 0 a x) = x1 (ix3 0 ⟨128 * n.val + a.val, by omega⟩ x) := by
  refine (harg4.readAt_unread x1 (rectK n.val).toLoadRect _).trans ?_
  congr 1
  funext b
  apply Fin.ext
  match b with
  | ⟨0, _⟩ => rfl
  | ⟨1, _⟩ => show 128 * (n.val % 32) + 1 * a.val = 128 * n.val + a.val; omega
  | ⟨2, _⟩ => show 0 + 1 * x.val = x.val; omega

/-- A value block's load. -/
theorem vld_apply (n : Fin 32) (d t : Fin 128) :
    View.readAt (Elt Ideal) arg5.view (rectV n.val).toLoadRect (harg5.unread x2) (ix4 0 0 d t) = x2 (ix4 0 0 d ⟨128 * n.val + t.val, by omega⟩) := by
  refine (harg5.readAt_unread x2 (rectV n.val).toLoadRect _).trans ?_
  congr 1
  funext b
  apply Fin.ext
  match b with
  | ⟨0, _⟩ => rfl
  | ⟨1, _⟩ => rfl
  | ⟨2, _⟩ => show 0 + 1 * d.val = d.val; omega
  | ⟨3, _⟩ => show 128 * (n.val % 32) + 1 * t.val = 128 * n.val + t.val; omega

/-- A value block's scale, loaded. -/
theorem vsld_apply (n : Fin 32) :
    View.readAt (Elt Ideal) arg7.view (rectVs n.val).toLoadRect (harg7.unread x4) (ix4 0 0 0 0) = x4 (ix4 0 0 n 0) := by
  refine (harg7.readAt_unread x4 (rectVs n.val).toLoadRect _).trans ?_
  congr 1
  funext b
  apply Fin.ext
  match b with
  | ⟨0, _⟩ => rfl
  | ⟨1, _⟩ => rfl
  | ⟨2, _⟩ => show n.val % 32 + 1 * 0 = n.val; omega
  | ⟨3, _⟩ => rfl

/-- The scores at key `a` of block `n` and row `t` of head `g`. -/
theorem sld_apply (hs : ∀ g, Small (mag (head x0 g))) (n : Fin 32) (a : Fin 128) (g : ℕ) (t : Fin 128) (r : Fin 512) (hr : r.val = 128 * g + t.val) :
    sld c arg3 harg3 arg4 harg4 arg11 x0 x1 n.val (ix2 a r) = ∑ x : Fin 128, x1 (ix3 0 ⟨128 * n.val + a.val, by omega⟩ x) * hCode x0 g t x := by
  refine (sBlk_apply _ _ a r).trans (Finset.sum_congr rfl fun x _ => ?_)
  congr 1
  · exact kld_apply arg4 harg4 x1 n a x
  · show arg11.view.readCov (kernelRun0_A.sl.HS0_4 c arg3 harg3 x0) rectQ.toLoadRect (ix2 r x) = _
    rw [HS0_eq, readCov_qPieces arg11.view _ g t x r hr, xld_eq, pay8_apply _ (hs g)]
    rfl

/-- The factors of block `n` at row `t` of head `g`. -/
theorem fld_apply (hs : ∀ g, Small (mag (head x0 g))) (n : Fin 32) (g : ℕ) (t : Fin 128) (r : Fin 512) (hr : r.val = 128 * g + t.val) :
    fld c arg3 harg3 arg6 harg6 arg12 x0 x3 n.val (ix2 0 r) = hScale x0 g * x3 (ix4 0 0 n t) * cScale * log2e := by
  show arg12.view.readCov (kernelRun0_A.sl.HS1_4 c arg3 harg3 arg6 harg6 x0 x3) (rectF n.val).toLoadRect (ix2 0 r) = _
  rw [HS1_eq, readCov_fPieces arg12.view _ _ n g t r hr, xld_eq, ksld_eq, pay10_apply _ (hs g)]
  rfl

/-- The output rows, before they are laid out: column `128 g + t` is row `t` of head `g`. -/
theorem v1614_apply (hs : ∀ g, Small (mag (head x0 g))) (hk : ∀ n t, 0 ≤ x3 (ix4 0 0 n t)) (g : ℕ) (t d : Fin 128) (r : Fin 512)
    (hr : r.val = 128 * g + t.val) :
    kernelRun0_A.sl.v1614 c arg3 harg3 arg4 harg4 arg5 harg5 arg6 harg6 arg7 harg7 arg11 arg12 arg13 arg14 x0 x1 x2 x3 x4 (ix2 d r)
      = rowOut (fun n a => ∑ x : Fin 128, x1 (ix3 0 ⟨128 * n.val + a.val, by omega⟩ x) * hCode x0 g t x)
          (fun n => hScale x0 g * x3 (ix4 0 0 n t) * cScale) (fun n a => x2 (ix4 0 0 d ⟨128 * n.val + a.val, by omega⟩))
          (fun n => x4 (ix4 0 0 n 0)) := by
  have hg : ∀ n, 0 ≤ hScale x0 g * x3 (ix4 0 0 n t) * cScale := fun n =>
    mul_nonneg (mul_nonneg (exp2_nonneg _) (hk n t)) cScale_nonneg
  rw [o_eq, m_eq, m8_eq, l8_eq]
  refine (oFin_apply _ _ _ _ _ _ d r (fun n => hScale x0 g * x3 (ix4 0 0 n t) * cScale) hg
    (fun n => fld_apply c arg3 harg3 arg6 harg6 arg12 x0 x3 hs n g t r hr) ?_ ?_).trans ?_
  · intro n a
    have e : arg13.view.readCov (kernelRun0_A.sl.HS2_32 c arg3 harg3 arg4 harg4 arg11 x0 x1) (rectS n.val).toLoadRect
        = sld c arg3 harg3 arg4 harg4 arg11 x0 x1 n.val := by
      rw [HS2_eq, sPieces_eq]
      exact readCov_rowPieces _ (e := .f32) _ _ n.isLt
    unfold pld
    rw [e, m_eq, m8_eq]
  · intro n a
    rw [HS3_eq, pPieces_eq]
    exact congrFun (readCov_rowPieces (e := .fp8e4m3) _ _ _ n.isLt) _
  · simp only [sld_apply c arg3 harg3 arg4 harg4 arg11 x0 x1 hs _ _ g t r hr, vld_apply, vsld_apply]

/-- The part of the output that head `g` gets. -/
theorem yPart_apply (o : FVec Ideal S128x512 .f32) (off : Fin 2 → ℕ) (h : S128x512.Slices off S128x128) (u : Fin 1) (t d : Fin 128) (a : Fin 128) (b : Fin 512)
    (ha : a.val = off 0 + d.val) (hb : b.val = off 1 + t.val) : yPart o off h (ix3 u t d) = o (ix2 a b) := by
  have e : yPart o off h (ix3 u t d) = o (ix2 ⟨off 0 + d.val, by omega⟩ ⟨off 1 + t.val, by omega⟩) := by
    pointwise [yPart]
  rw [e]
  congr 1
  funext k
  apply Fin.ext
  match k with
  | ⟨0, _⟩ => exact ha.symm
  | ⟨1, _⟩ => exact hb.symm

/-- The output block as one function: column `128 g + d`, row `t` is column `128 g + t`, row `d` of the rows. -/
def yOf (o : FVec Ideal S128x512 .f32) : S1x128x512.Idx → EReal := fun y =>
  o (ix2 ⟨(y 2).val % 128, Nat.mod_lt _ (by decide)⟩
    ⟨128 * ((y 2).val / 128) + (y 1).val, by have h2 : (y 2).val < 512 := (y 2).isLt; have h1 : (y 1).val < 128 := (y 1).isLt; omega⟩)

theorem yOf_emb (o : FVec Ideal S128x512 .f32) (g : ℕ) (hg : g < 4) (h : S128x512.Slices ![0, 128 * g] S128x128) (x : S1x128x128.Idx) (y : S1x128x512.Idx)
    (h1 : (y 1).val = 0 + 1 * (x 1).val) (h2 : (y 2).val = 128 * g + 1 * (x 2).val) : yPart o ![0, 128 * g] h x = yOf o y := by
  have hx1 : (x 1).val < 128 := (x 1).isLt
  have hx2 : (x 2).val < 128 := (x 2).isLt
  rw [← ix3_eta x]
  refine yPart_apply o _ h (x 0) (x 1) (x 2) _ _ ?_ ?_
  · show (y 2).val % 128 = 0 + (x 2).val; omega
  · show 128 * ((y 2).val / 128) + (y 1).val = 128 * g + (x 1).val; omega

/-- THE OUTPUT BLOCK at row `t`, column `d` of head `g`. -/
theorem out5_apply (hs : ∀ g, Small (mag (head x0 g))) (hk : ∀ n t, 0 ≤ x3 (ix4 0 0 n t)) (g : Fin 4) (t d : Fin 128) (y : S1x128x512.Idx)
    (h1 : (y 1).val = t.val) (h2 : (y 2).val = 128 * g.val + d.val) :
    out0_A_5 c i arg3 harg3 arg4 harg4 arg5 harg5 arg6 harg6 arg7 harg7 arg8 harg8 arg9 harg9 arg10 harg10 arg11 harg11 arg12 harg12 arg13 harg13 arg14 harg14 x0 x1 x2 x3 x4 y
      = rowOut (fun n a => ∑ x : Fin 128, x1 (ix3 0 ⟨128 * n.val + a.val, by omega⟩ x) * hCode x0 g.val t x)
          (fun n => hScale x0 g.val * x3 (ix4 0 0 n t) * cScale) (fun n a => x2 (ix4 0 0 d ⟨128 * n.val + a.val, by omega⟩))
          (fun n => x4 (ix4 0 0 n 0)) := by
  unfold out0_A_5
  rw [View.read_writes_junk_apply_eq_canon]
  have e := View.canon_apply_of_pieces (yOf (kernelRun0_A.sl.v1614 c arg3 harg3 arg4 harg4 arg5 harg5 arg6 harg6 arg7 harg7 arg11 arg12 arg13 arg14 x0 x1 x2 x3 x4))
    _ ?_ y (cover0_A_5 c i arg3 harg3 arg4 harg4 arg5 harg5 arg6 harg6 arg7 harg7 arg8 harg8 arg9 harg9 arg10 harg10 arg11 harg11 arg12 harg12 arg13 harg13 arg14 harg14 x0 x1 x2 x3 x4 y)
  · rw [e, ← v1614_apply c arg3 harg3 arg4 harg4 arg5 harg5 arg6 harg6 arg7 harg7 arg11 arg12 arg13 arg14 x0 x1 x2 x3 x4 hs hk g.val t d
      ⟨128 * g.val + t.val, by omega⟩ rfl]
    unfold yOf
    congr 1
    funext k
    apply Fin.ext
    match k with
    | ⟨0, _⟩ => show (y 2).val % 128 = d.val; omega
    | ⟨1, _⟩ => show 128 * ((y 2).val / 128) + (y 1).val = 128 * g.val + t.val; omega
  · rw [L5_eq]
    intro p hp
    simp only [List.mem_cons, List.mem_nil_iff, or_false] at hp
    rcases hp with rfl | rfl | rfl | rfl
    · exact fun x => yOf_emb _ 3 (by decide) slices_S128x512_o0_384_S128x128 x _ rfl rfl
    · exact fun x => yOf_emb _ 2 (by decide) slices_S128x512_o0_256_S128x128 x _ rfl rfl
    · exact fun x => yOf_emb _ 1 (by decide) slices_S128x512_o0_128_S128x128 x _ rfl rfl
    · exact fun x => yOf_emb _ 0 (by decide) slices_S128x512_o0_0_S128x128 x _ rfl rfl

/-- The block of query codes as one function. -/
def cOf (xs : ℕ → Vec Ideal S1x128x128 .bf16) : S1x128x512.Idx → EReal := fun y =>
  k0_pay7 (k0_pay4 (xs ((y 2).val / 128))) (ix3 0 (y 1) ⟨(y 2).val % 128, Nat.mod_lt _ (by decide)⟩)

theorem cOf_emb (xs : ℕ → Vec Ideal S1x128x128 .bf16) (g : ℕ) (x : S1x128x128.Idx) (y : S1x128x512.Idx)
    (h1 : (y 1).val = 0 + 1 * (x 1).val) (h2 : (y 2).val = 128 * g + 1 * (x 2).val) : k0_pay7 (k0_pay4 (xs g)) x = cOf xs y := by
  have hx0 : (x 0).val < 1 := (x 0).isLt
  have hx2 : (x 2).val < 128 := (x 2).isLt
  have hd : (y 2).val / 128 = g := by omega
  unfold cOf
  rw [hd]
  congr 1
  funext a
  apply Fin.ext
  match a with
  | ⟨0, _⟩ => show (x 0).val = 0; omega
  | ⟨1, _⟩ => show (x 1).val = (y 1).val; omega
  | ⟨2, _⟩ => show (x 2).val = (y 2).val % 128; omega

/-- THE BLOCK OF QUERY CODES at row `t`, column `d` of head `g`. -/
theorem out6_apply (hs : ∀ g, Small (mag (head x0 g))) (g : Fin 4) (t d : Fin 128) (y : S1x128x512.Idx)
    (h1 : (y 1).val = t.val) (h2 : (y 2).val = 128 * g.val + d.val) : out0_A_6 c i arg3 harg3 arg4 harg4 arg5 harg5 arg6 harg6 arg7 harg7 arg8 harg8 arg9 harg9 arg10 harg10 arg11 harg11 arg12 harg12 arg13 harg13 arg14 harg14 x0 x1 x2 x3 x4 y = hCode x0 g.val t d := by
  unfold out0_A_6
  rw [View.read_writes_junk_apply_eq_canon]
  have e := View.canon_apply_of_pieces (cOf (xld arg3 harg3 x0)) _ ?_ y (cover0_A_6 c i arg3 harg3 arg4 harg4 arg5 harg5 arg6 harg6 arg7 harg7 arg8 harg8 arg9 harg9 arg10 harg10 arg11 harg11 arg12 harg12 arg13 harg13 arg14 harg14 x0 x1 x2 x3 x4 y)
  · rw [e, ← cOf_emb (xld arg3 harg3 x0) g.val (ix3 0 t d) y (by rw [h1]; show t.val = 0 + 1 * t.val; omega)
      (by rw [h2]; show 128 * g.val + d.val = 128 * g.val + 1 * d.val; omega), xld_eq, pay7_apply _ (hs g.val)]
    rfl
  · rw [L6_eq]
    intro p hp
    simp only [List.mem_cons, List.mem_nil_iff, or_false] at hp
    rcases hp with rfl | rfl | rfl | rfl
    · exact fun x => cOf_emb (xld arg3 harg3 x0) 3 x _ rfl rfl
    · exact fun x => cOf_emb (xld arg3 harg3 x0) 2 x _ rfl rfl
    · exact fun x => cOf_emb (xld arg3 harg3 x0) 1 x _ rfl rfl
    · exact fun x => cOf_emb (xld arg3 harg3 x0) 0 x _ rfl rfl

/-- The block of query scales as one function. -/
def scOf (xs : ℕ → Vec Ideal S1x128x128 .bf16) : S1x1x1x4x128.Idx → EReal := fun y =>
  k0_pay9 (F := Ideal) (k0_pay3 (xs (y 3).val)) (ix5 0 0 0 0 (y 4))

theorem scOf_emb (xs : ℕ → Vec Ideal S1x128x128 .bf16) (g : ℕ) (x : S1x1x1x1x128.Idx) (y : S1x1x1x4x128.Idx)
    (h3 : (y 3).val = g + 1 * (x 3).val) (h4 : (y 4).val = 0 + 1 * (x 4).val) : k0_pay9 (F := Ideal) (k0_pay3 (xs g)) x = scOf xs y := by
  have hx0 : (x 0).val < 1 := (x 0).isLt
  have hx1 : (x 1).val < 1 := (x 1).isLt
  have hx2 : (x 2).val < 1 := (x 2).isLt
  have hx3 : (x 3).val < 1 := (x 3).isLt
  have hd : (y 3).val = g := by omega
  unfold scOf
  rw [hd]
  congr 1
  funext a
  apply Fin.ext
  match a with
  | ⟨0, _⟩ => show (x 0).val = 0; omega
  | ⟨1, _⟩ => show (x 1).val = 0; omega
  | ⟨2, _⟩ => show (x 2).val = 0; omega
  | ⟨3, _⟩ => show (x 3).val = 0; omega
  | ⟨4, _⟩ => show (x 4).val = (y 4).val; omega

/-- THE BLOCK OF QUERY SCALES at head `g`, in every lane. -/
theorem out7_apply (hs : ∀ g, Small (mag (head x0 g))) (g : Fin 4) (l : Fin 128) (y : S1x1x1x4x128.Idx)
    (h3 : (y 3).val = g.val) (h4 : (y 4).val = l.val) : out0_A_7 c i arg3 harg3 arg4 harg4 arg5 harg5 arg6 harg6 arg7 harg7 arg8 harg8 arg9 harg9 arg10 harg10 arg11 harg11 arg12 harg12 arg13 harg13 arg14 harg14 x0 x1 x2 x3 x4 y = hScale x0 g.val := by
  unfold out0_A_7
  rw [View.read_writes_junk_apply_eq_canon]
  have e := View.canon_apply_of_pieces (scOf (xld arg3 harg3 x0)) _ ?_ y (cover0_A_7 c i arg3 harg3 arg4 harg4 arg5 harg5 arg6 harg6 arg7 harg7 arg8 harg8 arg9 harg9 arg10 harg10 arg11 harg11 arg12 harg12 arg13 harg13 arg14 harg14 x0 x1 x2 x3 x4 y)
  · rw [e, ← scOf_emb (xld arg3 harg3 x0) g.val (ix5 0 0 0 0 l) y (by rw [h3]; show g.val = g.val + 1 * 0; omega)
      (by rw [h4]; show l.val = 0 + 1 * l.val; omega), xld_eq, pay9_apply _ (hs g.val)]
    rfl
  · rw [L7_eq]
    intro p hp
    simp only [List.mem_cons, List.mem_nil_iff, or_false] at hp
    rcases hp with rfl | rfl | rfl | rfl
    · exact fun x => scOf_emb (xld arg3 harg3 x0) 3 x _ rfl rfl
    · exact fun x => scOf_emb (xld arg3 harg3 x0) 2 x _ rfl rfl
    · exact fun x => scOf_emb (xld arg3 harg3 x0) 1 x _ rfl rfl
    · exact fun x => scOf_emb (xld arg3 harg3 x0) 0 x _ rfl rfl

end Cert.KernelIdeal.Body

end
-- ==== Proof.Spec.lean ====
/- THE THREE RESULTS AS FUNCTIONS OF THE ARRAYS: the codes and scales of the queries, and the output, each at its coordinates: batch
   `b`, key head `h`, query head `g` of that key head's four, block `s` of 128 rows, row `t` of the block, column `d` of the head. -/
module

public import proofs.«01_k».proof.Proof.Row
public import Idealize.ShloMosaic.Lib.Pointwise

@[expose] public section

noncomputable section

namespace Cert.Attn

open Idealize.ShloMosaic

/-- A row of the sequence: row `t` of block `s`. -/
def row (s : Fin 32) (t : Fin 128) : Fin 4096 := ⟨128 * s.val + t.val, by omega⟩
/-- A column of the activations: column `d` of query head `g` of key head `h`. -/
def col (h : Fin 8) (g : Fin 4) (d : Fin 128) : Fin 4096 := ⟨512 * h.val + (128 * g.val + d.val), by omega⟩
/-- A column of the keys: column `d` of key head `h`. -/
def kcol (h : Fin 8) (d : Fin 128) : Fin 1024 := ⟨128 * h.val + d.val, by omega⟩

/-- The block of a row, the row in its block (and the column in its head), the key head and the query head of a column. -/
def sOf (r : Fin 4096) : Fin 32 := ⟨r.val / 128, by omega⟩
def lOf (r : Fin 4096) : Fin 128 := ⟨r.val % 128, by omega⟩
def hOf (r : Fin 4096) : Fin 8 := ⟨r.val / 512, by omega⟩
def gOf (r : Fin 4096) : Fin 4 := ⟨r.val / 128 % 4, by omega⟩

theorem row_of (r : Fin 4096) : row (sOf r) (lOf r) = r := by
  apply Fin.ext; show 128 * (r.val / 128) + r.val % 128 = r.val; omega
theorem col_of (r : Fin 4096) : col (hOf r) (gOf r) (lOf r) = r := by
  apply Fin.ext; show 512 * (r.val / 512) + (128 * (r.val / 128 % 4) + r.val % 128) = r.val; omega

variable (x : (⟨3, ![8, 4096, 4096]⟩ : Shape).Idx → EReal) (k : (⟨3, ![8, 4096, 1024]⟩ : Shape).Idx → EReal)
  (v : (⟨4, ![8, 8, 128, 4096]⟩ : Shape).Idx → EReal) (ks vs : (⟨4, ![8, 8, 32, 128]⟩ : Shape).Idx → EReal)
  (b h : Fin 8) (g : Fin 4) (s : Fin 32)

/-- The largest magnitude of a query block. -/
def xMag : EReal :=
  (Finset.univ : Finset (Fin 128 × Fin 128)).sup fun p => max (x (ix3 b (row s p.1) (col h g p.2))) (-x (ix3 b (row s p.1) (col h g p.2)))
/-- The scale of a query block. -/
def xScale : EReal := Ideal.exp2 (rExp (xMag x b h g s))
/-- A query code. -/
def xCode (t d : Fin 128) : EReal := clip (x (ix3 b (row s t) (col h g d)) * Ideal.exp2 (0 - rExp (xMag x b h g s)))
/-- The products of one query row's codes with the keys' codes. -/
def xDot (t : Fin 128) (n : Fin 32) (a : Fin 128) : EReal := ∑ e : Fin 128, k (ix3 b (row n a) (kcol h e)) * xCode x b h g s t e
/-- The factor of a score: the two scales and `1 / sqrt 128`. -/
def xFac (n : Fin 32) : EReal := xScale x b h g s * ks (ix4 b h n 0) * Ideal.ofBits FTy.f32 0x3DB504F3#32
/-- The output. -/
def yVal (t d : Fin 128) : EReal :=
  rowOut (xDot x k b h g s t) (xFac x ks b h g s) (fun n a => v (ix4 b h d (row n a))) (fun n => vs (ix4 b h n 0))

/-- The output array. -/
def yArr : (⟨3, ![8, 4096, 4096]⟩ : Shape).Idx → EReal := fun i =>
  yVal x k v ks vs (i 0) (hOf (i 2)) (gOf (i 2)) (sOf (i 1)) (lOf (i 1)) (lOf (i 2))
/-- The array of the query codes. -/
def cArr : (⟨3, ![8, 4096, 4096]⟩ : Shape).Idx → EReal := fun i =>
  xCode x (i 0) (hOf (i 2)) (gOf (i 2)) (sOf (i 1)) (lOf (i 1)) (lOf (i 2))
/-- The array of the query scales. -/
def sArr : (⟨5, ![8, 8, 32, 4, 128]⟩ : Shape).Idx → EReal := fun i => xScale x (i 0) (i 1) (i 3) (i 2)

theorem sOf_row (t : Fin 128) : sOf (row s t) = s := by
  apply Fin.ext; show (128 * s.val + t.val) / 128 = s.val; omega
theorem lOf_row (t : Fin 128) : lOf (row s t) = t := by
  apply Fin.ext; show (128 * s.val + t.val) % 128 = t.val; omega
theorem hOf_col (d : Fin 128) : hOf (col h g d) = h := by
  apply Fin.ext; show (512 * h.val + (128 * g.val + d.val)) / 512 = h.val; omega
theorem gOf_col (d : Fin 128) : gOf (col h g d) = g := by
  apply Fin.ext; show (512 * h.val + (128 * g.val + d.val)) / 128 % 4 = g.val; omega
theorem lOf_col (d : Fin 128) : lOf (col h g d) = d := by
  apply Fin.ext; show (512 * h.val + (128 * g.val + d.val)) % 128 = d.val; omega

/-- The arrays at their coordinates. -/
theorem yArr_at (t d : Fin 128) : yArr x k v ks vs (ix3 b (row s t) (col h g d)) = yVal x k v ks vs b h g s t d := by
  show yVal x k v ks vs b (hOf (col h g d)) (gOf (col h g d)) (sOf (row s t)) (lOf (row s t)) (lOf (col h g d)) = _
  rw [sOf_row, lOf_row, hOf_col, gOf_col, lOf_col]
theorem cArr_at (t d : Fin 128) : cArr x (ix3 b (row s t) (col h g d)) = xCode x b h g s t d := by
  show xCode x b (hOf (col h g d)) (gOf (col h g d)) (sOf (row s t)) (lOf (row s t)) (lOf (col h g d)) = _
  rw [sOf_row, lOf_row, hOf_col, gOf_col, lOf_col]

/-- A supremum over all keys is one over the blocks and their keys. -/
theorem sup_keys (f : Fin 4096 → EReal) :
    Finset.univ.sup f = (Finset.univ : Finset (Fin 32 × Fin 128)).sup fun p => f (row p.1 p.2) := by
  apply le_antisymm
  · refine Finset.sup_le fun i _ => ?_
    have e : f i = f (row ⟨i.val / 128, by omega⟩ ⟨i.val % 128, by omega⟩) := by
      congr 1; apply Fin.ext; show i.val = 128 * (i.val / 128) + i.val % 128; omega
    rw [e]
    exact Finset.le_sup (f := fun p : Fin 32 × Fin 128 => f (row p.1 p.2)) (Finset.mem_univ (⟨i.val / 128, by omega⟩, ⟨i.val % 128, by omega⟩))
  · exact Finset.sup_le fun p _ => Finset.le_sup (f := f) (Finset.mem_univ (row p.1 p.2))

/-- A sum over all keys is one over the blocks and their keys. -/
theorem sum_keys (f : Fin 4096 → EReal) : ∑ i, f i = ∑ n, ∑ a, f (row n a) := by
  rw [← Fintype.sum_prod_type' (f := fun (n : Fin 32) (a : Fin 128) => f (row n a))]
  refine (Fintype.sum_equiv (finProdFinEquiv (m := 32) (n := 128)) _ _ fun p => ?_).symm
  congr 1
  apply Fin.ext
  show 128 * p.1.val + p.2.val = p.2.val + 128 * p.1.val
  omega

end Cert.Attn

end
-- ==== Proof.KerArray.lean ====
/- THE KERNEL'S THREE ARRAYS after the run, as functions of the argument arrays. -/
module

public import proofs.«01_k».proof.Proof.Block
public import proofs.«01_k».proof.Proof.Spec
public import proofs.«01_k».proof.Proof.Gen.KernelIdeal.Value
public import Idealize.ShloMosaic.Lib.Pipeline.Covers
public import Idealize.ShloMosaic.Lib.Pipeline.ValueKit

@[expose] public section

set_option synthInstance.maxSize 4096
set_option maxRecDepth 65536

noncomputable section

namespace Cert.KernelIdeal.Body

open Cert.KernelIdeal Cert.KernelIdeal.Gen Cert.Attn Idealize.ShloMosaic Idealize.ShloMosaic.TcCoe Idealize.SL.Sem

variable (m : (ℓ : Loc nD τ sig) → Buf (Elt Ideal) ℓ) (c : Dev nD) (t : Fin cfg0.N)

/-- The batch, the key head and the block of rows of a grid point. -/
def pb (t : Fin cfg0.N) : Fin 8 := (grid0.coords t) 0
def ph (t : Fin cfg0.N) : Fin 8 := (grid0.coords t) 1
def ps (t : Fin cfg0.N) : Fin 32 := (grid0.coords t) 2

theorem idx0 : win0_0.index t = ![(pb t).val, (ps t).val, (ph t).val] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ps t).val).toNat = (ps t).val; rw [BitVec.toNat_ofNat]; omega
  | ⟨2, _⟩ => show (BitVec.ofNat 32 (ph t).val).toNat = (ph t).val; rw [BitVec.toNat_ofNat]; omega

theorem idx1 : win0_1.index t = ![(pb t).val, 0, (ph t).val] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => rfl
  | ⟨2, _⟩ => show (BitVec.ofNat 32 (ph t).val).toNat = (ph t).val; rw [BitVec.toNat_ofNat]; omega

theorem idx2 : win0_2.index t = ![(pb t).val, (ph t).val, 0, 0] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ph t).val).toNat = (ph t).val; rw [BitVec.toNat_ofNat]; omega
  | ⟨2, _⟩ => rfl
  | ⟨3, _⟩ => rfl

theorem idx3 : win0_3.index t = ![(pb t).val, (ph t).val, 0, 0] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ph t).val).toNat = (ph t).val; rw [BitVec.toNat_ofNat]; omega
  | ⟨2, _⟩ => rfl
  | ⟨3, _⟩ => rfl

theorem idx4 : win0_4.index t = ![(pb t).val, (ph t).val, 0, 0] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ph t).val).toNat = (ph t).val; rw [BitVec.toNat_ofNat]; omega
  | ⟨2, _⟩ => rfl
  | ⟨3, _⟩ => rfl

theorem idx5 : win0_5.index t = ![(pb t).val, (ps t).val, (ph t).val] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ps t).val).toNat = (ps t).val; rw [BitVec.toNat_ofNat]; omega
  | ⟨2, _⟩ => show (BitVec.ofNat 32 (ph t).val).toNat = (ph t).val; rw [BitVec.toNat_ofNat]; omega

theorem idx6 : win0_6.index t = ![(pb t).val, (ps t).val, (ph t).val] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ps t).val).toNat = (ps t).val; rw [BitVec.toNat_ofNat]; omega
  | ⟨2, _⟩ => show (BitVec.ofNat 32 (ph t).val).toNat = (ph t).val; rw [BitVec.toNat_ofNat]; omega

theorem idx7 : win0_7.index t = ![(pb t).val, (ph t).val, (ps t).val, 0, 0] := by
  have h0 := (pb t).isLt
  have h1 := (ps t).isLt
  have h2 := (ph t).isLt
  funext a
  match a with
  | ⟨0, _⟩ => show (BitVec.ofNat 32 (pb t).val).toNat = (pb t).val; rw [BitVec.toNat_ofNat]; omega
  | ⟨1, _⟩ => show (BitVec.ofNat 32 (ph t).val).toNat = (ph t).val; rw [BitVec.toNat_ofNat]; omega
  | ⟨2, _⟩ => show (BitVec.ofNat 32 (ps t).val).toNat = (ps t).val; rw [BitVec.toNat_ofNat]; omega
  | ⟨3, _⟩ => rfl
  | ⟨4, _⟩ => rfl

/-- The query block of a point. -/
theorem iblk0_apply (r : Fin 128) (j : Fin 512) (s d : Fin 4096) (hs : s.val = (ps t).val * 128 + r.val) (hd : d.val = (ph t).val * 512 + j.val) :
    iblk m c 0 t (ix3 0 r j) = m ((c : Thread nD τ).loc main_arg0) (ix3 (pb t) s d) := by
  rw [← V_main_arg0 m c]
  have e := idx0 t
  blk_simp [iblk]
  congr 1
  funext a
  apply Fin.ext
  match a with
  | ⟨0, _⟩ => blk_simp [e]; try omega
  | ⟨1, _⟩ => blk_simp [e]; try omega
  | ⟨2, _⟩ => blk_simp [e]; try omega

/-- The keys' codes of a point. -/
theorem iblk1_apply (r : Fin 4096) (j : Fin 128) (d : Fin 1024) (hd : d.val = (ph t).val * 128 + j.val) :
    iblk m c 1 t (ix3 0 r j) = m ((c : Thread nD τ).loc main_arg1) (ix3 (pb t) r d) := by
  rw [← V_main_arg1 m c]
  have e := idx1 t
  blk_simp [iblk]
  congr 1
  funext a
  apply Fin.ext
  match a with
  | ⟨0, _⟩ => blk_simp [e]; try omega
  | ⟨1, _⟩ => blk_simp [e]; try omega
  | ⟨2, _⟩ => blk_simp [e]; try omega

/-- The values' codes of a point. -/
theorem iblk2_apply (r : Fin 128) (j : Fin 4096) :
    iblk m c 2 t (ix4 0 0 r j) = m ((c : Thread nD τ).loc main_arg2) (ix4 (pb t) (ph t) r j) := by
  rw [← V_main_arg2 m c]
  have e := idx2 t
  blk_simp [iblk]
  congr 1
  funext a
  apply Fin.ext
  match a with
  | ⟨0, _⟩ => blk_simp [e]; try omega
  | ⟨1, _⟩ => blk_simp [e]; try omega
  | ⟨2, _⟩ => blk_simp [e]; try omega
  | ⟨3, _⟩ => blk_simp [e]; try omega

/-- The keys' scales of a point. -/
theorem iblk3_apply (r : Fin 32) (j : Fin 128) :
    iblk m c 3 t (ix4 0 0 r j) = m ((c : Thread nD τ).loc main_arg3) (ix4 (pb t) (ph t) r j) := by
  rw [← V_main_arg3 m c]
  have e := idx3 t
  blk_simp [iblk]
  congr 1
  funext a
  apply Fin.ext
  match a with
  | ⟨0, _⟩ => blk_simp [e]; try omega
  | ⟨1, _⟩ => blk_simp [e]; try omega
  | ⟨2, _⟩ => blk_simp [e]; try omega
  | ⟨3, _⟩ => blk_simp [e]; try omega

/-- The values' scales of a point. -/
theorem iblk4_apply (r : Fin 32) (j : Fin 128) :
    iblk m c 4 t (ix4 0 0 r j) = m ((c : Thread nD τ).loc main_arg4) (ix4 (pb t) (ph t) r j) := by
  rw [← V_main_arg4 m c]
  have e := idx4 t
  blk_simp [iblk]
  congr 1
  funext a
  apply Fin.ext
  match a with
  | ⟨0, _⟩ => blk_simp [e]; try omega
  | ⟨1, _⟩ => blk_simp [e]; try omega
  | ⟨2, _⟩ => blk_simp [e]; try omega
  | ⟨3, _⟩ => blk_simp [e]; try omega

end Cert.KernelIdeal.Body

end
-- ==== Proof.KerFinal.lean ====
/- THE KERNEL'S THREE ARRAYS after the run, as functions of the argument arrays: every point's blocks, and the points cover the arrays. -/
module

public import proofs.«01_k».proof.Proof.KerArray

@[expose] public section

set_option synthInstance.maxSize 4096
set_option maxRecDepth 65536

noncomputable section

namespace Cert.KernelIdeal.Body

open Cert.KernelIdeal Cert.KernelIdeal.Gen Cert.Attn Idealize.ShloMosaic Idealize.ShloMosaic.TcCoe Idealize.SL.Sem

variable (m : (ℓ : Loc nD τ sig) → Buf (Elt Ideal) ℓ) (c : Dev nD) (t : Fin cfg0.N)

/-- The activations' array. -/
abbrev xA : Vec Ideal S8x4096x4096 .bf16 := m ((c : Thread nD τ).loc main_arg0)
abbrev kA : Vec Ideal S8x4096x1024 .fp8e4m3 := m ((c : Thread nD τ).loc main_arg1)
abbrev vA : Vec Ideal S8x8x128x4096 .fp8e4m3 := m ((c : Thread nD τ).loc main_arg2)
abbrev ksA : Vec Ideal S8x8x32x128 .f32 := m ((c : Thread nD τ).loc main_arg3)
abbrev vsA : Vec Ideal S8x8x32x128 .f32 := m ((c : Thread nD τ).loc main_arg4)

/-- A head of a point's block. -/
theorem head_apply (g : Fin 4) (r d : Fin 128) :
    head (iblk m c 0 t) g.val (ix3 0 r d) = xA m c (ix3 (pb t) (row (ps t) r) (col (ph t) g d)) := by
  refine iblk0_apply m c t r _ _ _ ?_ ?_
  · show 128 * (ps t).val + r.val = (ps t).val * 128 + r.val; omega
  · show 512 * (ph t).val + (128 * g.val + d.val) = (ph t).val * 512 + (128 * (g.val % 4) + d.val); omega

/-- Its largest magnitude. -/
theorem mag_head (g : Fin 4) : mag (head (iblk m c 0 t) g.val) = xMag (xA m c) (pb t) (ph t) g (ps t) := by
  unfold mag xMag
  refine congrArg _ (funext fun p => ?_)
  rw [head_apply]

theorem hScale_eq (g : Fin 4) : hScale (iblk m c 0 t) g.val = xScale (xA m c) (pb t) (ph t) g (ps t) := by
  unfold hScale xScale
  rw [mag_head]
theorem hCode_eq (g : Fin 4) (r d : Fin 128) : hCode (iblk m c 0 t) g.val r d = xCode (xA m c) (pb t) (ph t) g (ps t) r d := by
  unfold hCode xCode
  rw [mag_head, head_apply]

/-- The inputs are finite: every entry is a real within the range of the input format. -/
def Finite (x : S8x4096x4096.Idx → EReal) : Prop := ∀ i, ∃ r : ℝ, x i = (r : EReal) ∧ |r| < (2 : ℝ) ^ (128 : ℤ)

theorem small_xMag (x : S8x4096x4096.Idx → EReal) (hx : Finite x) (b h : Fin 8) (g : Fin 4) (s : Fin 32) : Small (xMag x b h g s) := by
  obtain ⟨p, -, hp⟩ := Finset.exists_mem_eq_sup (Finset.univ : Finset (Fin 128 × Fin 128)) Finset.univ_nonempty
    fun p => max (x (ix3 b (row s p.1) (col h g p.2))) (-x (ix3 b (row s p.1) (col h g p.2)))
  obtain ⟨r, hr, hb⟩ := hx (ix3 b (row s p.1) (col h g p.2))
  refine ⟨|r|, ?_, abs_nonneg r, hb⟩
  unfold xMag
  rw [hp, hr, ← EReal.coe_neg]
  exact (EReal.coe_strictMono.monotone.map_max (a := r) (b := -r)).symm

theorem small_head (hx : Finite (xA m c)) (g : ℕ) : Small (mag (head (iblk m c 0 t) g)) := by
  have e : head (iblk m c 0 t) g = head (iblk m c 0 t) (⟨g % 4, Nat.mod_lt g (by decide)⟩ : Fin 4).val := by
    unfold head
    simp only [Nat.mod_mod]
  rw [e, mag_head]
  exact small_xMag _ hx _ _ _ _

/-- Where a point's blocks of the first two results lie in their arrays. -/
theorem emb56 (u : Fin 1) (r : Fin 128) (g : Fin 4) (d : Fin 128) (j : Fin 512) (hj : j.val = 128 * g.val + d.val) :
    (win0_6.blk t).view.emb (ix3 u r j) = ix3 (pb t) (row (ps t) r) (col (ph t) g d)
      ∧ (win0_5.blk t).view.emb (ix3 u r j) = ix3 (pb t) (row (ps t) r) (col (ph t) g d) := by
  have e6 := idx6 t
  have e5 := idx5 t
  constructor <;> (
    funext a
    apply Fin.ext
    match a with
    | ⟨0, _⟩ => blk_simp [e5, e6]; try omega
    | ⟨1, _⟩ => blk_simp [e5, e6]; show _ = 128 * (ps t).val + r.val; omega
    | ⟨2, _⟩ => blk_simp [e5, e6]; show _ = 512 * (ph t).val + (128 * g.val + d.val); omega)

/-- A block's index by head and column. -/
theorem blk_split (y : S1x128x512.Idx) : ∃ (r : Fin 128) (g : Fin 4) (d : Fin 128) (j : Fin 512), y = ix3 0 r j ∧ j.val = 128 * g.val + d.val := by
  have h2 : (y 2).val < 512 := (y 2).isLt
  refine ⟨y 1, ⟨(y 2).val / 128, by omega⟩, ⟨(y 2).val % 128, by omega⟩, y 2, ?_, ?_⟩
  · funext a
    match a with
    | ⟨0, _⟩ => exact Subsingleton.elim (α := Fin 1) _ _
    | ⟨1, _⟩ => rfl
    | ⟨2, _⟩ => rfl
  · show (y 2).val = 128 * ((y 2).val / 128) + (y 2).val % 128
    omega

theorem covers6 : (cfg0.win 6).Covers :=
  (cfg0.win 6).covers_of_indexMap_surj rfl (by decide) fun β => ⟨fun k => match k with
      | ⟨0, _⟩ => (show Fin 8 from β 0)
      | ⟨1, _⟩ => (show Fin 8 from β 2)
      | ⟨2, _⟩ => (show Fin 32 from β 1), fun a => by
    have h0 : (β 0).val < 8 := (β 0).isLt
    have h1 : (β 1).val < 32 := (β 1).isLt
    have h2 : (β 2).val < 8 := (β 2).isLt
    match a with
    | ⟨0, _⟩ => show (BitVec.ofNat 32 (β 0).val).toNat = (β 0).val; rw [BitVec.toNat_ofNat]; omega
    | ⟨1, _⟩ => show (BitVec.ofNat 32 (β 1).val).toNat = (β 1).val; rw [BitVec.toNat_ofNat]; omega
    | ⟨2, _⟩ => show (BitVec.ofNat 32 (β 2).val).toNat = (β 2).val; rw [BitVec.toNat_ofNat]; omega⟩

theorem covers5 : (cfg0.win 5).Covers :=
  (cfg0.win 5).covers_of_indexMap_surj rfl (by decide) fun β => ⟨fun k => match k with
      | ⟨0, _⟩ => (show Fin 8 from β 0)
      | ⟨1, _⟩ => (show Fin 8 from β 2)
      | ⟨2, _⟩ => (show Fin 32 from β 1), fun a => by
    have h0 : (β 0).val < 8 := (β 0).isLt
    have h1 : (β 1).val < 32 := (β 1).isLt
    have h2 : (β 2).val < 8 := (β 2).isLt
    match a with
    | ⟨0, _⟩ => show (BitVec.ofNat 32 (β 0).val).toNat = (β 0).val; rw [BitVec.toNat_ofNat]; omega
    | ⟨1, _⟩ => show (BitVec.ofNat 32 (β 1).val).toNat = (β 1).val; rw [BitVec.toNat_ofNat]; omega
    | ⟨2, _⟩ => show (BitVec.ofNat 32 (β 2).val).toNat = (β 2).val; rw [BitVec.toNat_ofNat]; omega⟩

theorem covers7 : (cfg0.win 7).Covers :=
  (cfg0.win 7).covers_of_indexMap_surj rfl (by decide) fun β => ⟨fun k => match k with
      | ⟨0, _⟩ => (show Fin 8 from β 0)
      | ⟨1, _⟩ => (show Fin 8 from β 1)
      | ⟨2, _⟩ => (show Fin 32 from β 2), fun a => by
    have h0 : (β 0).val < 8 := (β 0).isLt
    have h1 : (β 1).val < 8 := (β 1).isLt
    have h2 : (β 2).val < 32 := (β 2).isLt
    have h3 : (β 3).val < 1 := (β 3).isLt
    have h4 : (β 4).val < 1 := (β 4).isLt
    match a with
    | ⟨0, _⟩ => show (BitVec.ofNat 32 (β 0).val).toNat = (β 0).val; rw [BitVec.toNat_ofNat]; omega
    | ⟨1, _⟩ => show (BitVec.ofNat 32 (β 1).val).toNat = (β 1).val; rw [BitVec.toNat_ofNat]; omega
    | ⟨2, _⟩ => show (BitVec.ofNat 32 (β 2).val).toNat = (β 2).val; rw [BitVec.toNat_ofNat]; omega
    | ⟨3, _⟩ => show 0 = (β 3).val; omega
    | ⟨4, _⟩ => show 0 = (β 4).val; omega⟩

/-- THE CODES after the run. -/
theorem arr6 (hx : Finite (xA m c)) : (dats m 0 c).arrAt 6 cfg0.N = cArr (xA m c) := by
  refine (dats m 0 c).arrAt_eq_of_covers 6 (cArr (xA m c)) covers6 fun t hf y => ?_
  rw [after0_6]
  blk_simp [outsAt0]
  dsimp only
  obtain ⟨r, g, d, j, rfl, hj⟩ := blk_split y
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (small_head m c t hx) g r d (ix3 0 r j) rfl hj).trans ?_
  rw [hCode_eq]
  exact (cArr_at _ _ _ _ _ _ _).symm.trans (congrArg (cArr (xA m c)) (emb56 t 0 r g d j hj).1.symm)

/-- THE SCALES after the run. -/
theorem arr7 (hx : Finite (xA m c)) : (dats m 0 c).arrAt 7 cfg0.N = sArr (xA m c) := by
  refine (dats m 0 c).arrAt_eq_of_covers 7 (sArr (xA m c)) covers7 fun t hf y => ?_
  rw [after0_7]
  blk_simp [outsAt0]
  dsimp only
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (small_head m c t hx) (y 3) (y 4) y rfl rfl).trans ?_
  refine (hScale_eq m c t (show Fin 4 from y 3)).trans ?_
  have e := idx7 t
  have h0 : (y 0).val < 1 := (y 0).isLt
  have h1 : (y 1).val < 1 := (y 1).isLt
  have h2 : (y 2).val < 1 := (y 2).isLt
  have w0 : (show Fin 8 from (win0_7.blk t).view.emb y 0) = pb t := by apply Fin.ext; blk_simp [e]
  have w1 : (show Fin 8 from (win0_7.blk t).view.emb y 1) = ph t := by apply Fin.ext; blk_simp [e]
  have w2 : (show Fin 32 from (win0_7.blk t).view.emb y 2) = ps t := by apply Fin.ext; blk_simp [e]
  have w3 : (show Fin 4 from (win0_7.blk t).view.emb y 3) = (show Fin 4 from y 3) := by apply Fin.ext; blk_simp [e]
  show _ = xScale (xA m c) (show Fin 8 from (win0_7.blk t).view.emb y 0) (show Fin 8 from (win0_7.blk t).view.emb y 1)
    (show Fin 4 from (win0_7.blk t).view.emb y 3) (show Fin 32 from (win0_7.blk t).view.emb y 2)
  rw [w0, w1, w2, w3]

/-- THE OUTPUT after the run. -/
theorem arr5 (hx : Finite (xA m c)) (hk : ∀ i, 0 ≤ ksA m c i) (hl : ∀ (b h : Fin 8) (n : Fin 32) (t : Fin 128), ksA m c (ix4 b h n t) = ksA m c (ix4 b h n 0)) :
    (dats m 0 c).arrAt 5 cfg0.N = yArr (xA m c) (kA m c) (vA m c) (ksA m c) (vsA m c) := by
  refine (dats m 0 c).arrAt_eq_of_covers 5 (yArr (xA m c) (kA m c) (vA m c) (ksA m c) (vsA m c)) covers5 fun t hf y => ?_
  rw [after0_5]
  blk_simp [outsAt0]
  dsimp only
  obtain ⟨r, g, d, j, rfl, hj⟩ := blk_split y
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (small_head m c t hx)
    (fun n l => le_of_le_of_eq (hk _) (iblk3_apply m c t n l).symm) g r d (ix3 0 r j) rfl hj).trans ?_
  refine Eq.trans ?_ ((yArr_at (xA m c) (kA m c) (vA m c) (ksA m c) (vsA m c) (pb t) (ph t) g (ps t) r d).symm.trans
    (congrArg (yArr (xA m c) (kA m c) (vA m c) (ksA m c) (vsA m c)) (emb56 t 0 r g d j hj).2.symm))
  unfold yVal
  refine congr (congr (congr (congrArg rowOut ?_) ?_) ?_) ?_
  · funext n a
    refine Finset.sum_congr rfl fun x _ => ?_
    exact congrArg₂ (fun p q : EReal => p * q)
      (iblk1_apply m c t (row n a) x (kcol (ph t) x) (by show 128 * (ph t).val + x.val = (ph t).val * 128 + x.val; omega))
      (hCode_eq m c t g r x)
  · funext n
    exact congrArg₂ (fun p q : EReal => p * q * cScale) (hScale_eq m c t g) ((iblk3_apply m c t n r).trans (hl _ _ n r))
  · funext n a
    exact iblk2_apply m c t d (row n a)
  · funext n
    exact iblk4_apply m c t n 0

end Cert.KernelIdeal.Body

end
-- ==== Proof.Pre.lean ====
/- WHAT THE PRECONDITION SAYS of the argument arrays: the activations are finite, the keys' scales are nonnegative and the same in every
   lane. -/
module

public import proofs.«01_k».proof.Defs
public import proofs.«01_k».proof.Proof.KerFinal
public import proofs.«01_k».proof.Proof.Gen.Pre_pre

@[expose] public section

set_option synthInstance.maxSize 4096
set_option maxRecDepth 65536

noncomputable section

namespace Cert.KernelIdeal.Body

open Cert.Attn Idealize.ShloMosaic Idealize.ShloMosaic.TcCoe Idealize.SL.Sem

attribute [local instance] Cert.Pre_pre.Gen.facts

variable (a0 : Vec Ideal Cert.Pre_pre.S8x4096x4096 .bf16) (a1 : Vec Ideal Cert.Pre_pre.S8x4096x1024 .fp8e4m3)
  (a2 : Vec Ideal Cert.Pre_pre.S8x8x128x4096 .fp8e4m3) (a3 a4 : Vec Ideal Cert.Pre_pre.S8x8x32x128 .f32)

theorem one_iff (p : Prop) [Decidable p] : BitVec.ofBool (decide p) = 1#1 ↔ p := by
  by_cases h : p <;> simp [h]

/-- The largest magnitude of the input format. -/
theorem ofBits_max : Ideal.ofBits FTy.f32 0x7F7F0000#32 = ((255 * (2 : ℝ) ^ (120 : ℤ) : ℝ) : EReal) := by
  simp [Ideal.ofBits, Ideal.ieee]
  norm_cast

theorem finite_of_pre (h : (Cert.Pre_pre.fn (F := Ideal) a0 a1 a2 a3 a4).1 = fun _ => 1#1) : Finite a0 := by
  intro i
  have hi : BitVec.ofBool (decide (max (a0 i) (-a0 i) ≤ Ideal.ofBits FTy.f32 0x7F7F0000#32)) = 1#1 := congrFun h i
  rw [one_iff, ofBits_max] at hi
  generalize a0 i = x at hi
  induction x using EReal.rec with
  | bot => exact absurd (top_le_iff.1 (le_trans (le_max_right _ _) hi)) (EReal.coe_ne_top _)
  | top => exact absurd (top_le_iff.1 (le_trans (le_max_left _ _) hi)) (EReal.coe_ne_top _)
  | coe r =>
    refine ⟨r, rfl, ?_⟩
    have h1 : r ≤ 255 * (2 : ℝ) ^ (120 : ℤ) := EReal.coe_le_coe_iff.1 (le_trans (le_max_left _ _) hi)
    have h2 : -r ≤ 255 * (2 : ℝ) ^ (120 : ℤ) := EReal.coe_le_coe_iff.1 (le_trans (le_max_right _ _) hi)
    refine lt_of_le_of_lt (abs_le'.2 ⟨h1, h2⟩) ?_
    norm_num

theorem lanes_of_pre (h : (Cert.Pre_pre.fn (F := Ideal) a0 a1 a2 a3 a4).2.1 = fun _ => 1#1) (b h' : Fin 8) (n : Fin 32) (t : Fin 128) :
    a3 (ix4 b h' n t) = a3 (ix4 b h' n 0) := by
  have hi := congrFun h (ix4 b h' n t)
  have e : (Cert.Pre_pre.fn (F := Ideal) a0 a1 a2 a3 a4).2.1 (ix4 b h' n t) = BitVec.ofBool (decide (a3 (ix4 b h' n t) = a3 (ix4 b h' n 0))) := by
    pointwise [Cert.Pre_pre.fn]
  rw [e, one_iff] at hi
  exact hi

theorem nonneg_of_pre (h : (Cert.Pre_pre.fn (F := Ideal) a0 a1 a2 a3 a4).2.2 = fun _ => 1#1) (i : Cert.Pre_pre.S8x8x32x128.Idx) : 0 ≤ a3 i := by
  have hi : BitVec.ofBool (decide (Ideal.ofBits FTy.f32 0x00000000#32 ≤ a3 i)) = 1#1 := congrFun h i
  rw [one_iff] at hi
  refine le_trans (le_of_eq ?_) hi
  simp [Ideal.ofBits, Ideal.ieee]

end Cert.KernelIdeal.Body

end
-- ==== Proof.RefExpo.lean ====
/- THE REFERENCE'S EXPONENT over a vector of any shape. -/
module

public import proofs.«01_k».proof.Proof.Spec

@[expose] public section

noncomputable section

namespace Cert.Attn

open Idealize.ShloMosaic

/-- The exponents of a vector of scaled magnitudes. -/
def expoVec {s : Shape} (z : FVec Ideal s .f32) : FVec Ideal s .f32 :=
  select (cmpf .oge z (broadcast s (Scalar.ofBits .f32 0x00800000#32)))
    (addf (floor (divf (log z) (log (broadcast s (Scalar.ofBits .f32 0x40000000#32))))) (broadcast s (Scalar.ofBits .f32 0x3F800000#32)))
    (broadcast s (Scalar.ofBits .f32 0x00000000#32))

theorem mulf_at {s : Shape} (x y : FVec Ideal s .f32) (j : s.Idx) : mulf x y j = x j * y j := rfl
theorem subf_at {s : Shape} (x y : FVec Ideal s .f32) (j : s.Idx) : subf x y j = x j - y j := rfl
theorem exp2_at {s : Shape} (x : FVec Ideal s .f32) (j : s.Idx) : exp2 x j = Ideal.exp2 (x j) := rfl
theorem exp_at {s : Shape} (x : FVec Ideal s .f32) (j : s.Idx) : exp x j = Ideal.exp (x j) := rfl
theorem divf_at {s : Shape} (x y : FVec Ideal s .f32) (j : s.Idx) : divf x y j = Ideal.div (x j) (y j) := rfl
theorem absf_at {s : Shape} (x : FVec Ideal s .f32) (j : s.Idx) : absf x j = max (x j) (-x j) := rfl
theorem broadcast_at {s : Shape} (b : BitVec 32) (j : s.Idx) : (broadcast s (Scalar.ofBits (F := Ideal) .f32 b)) j = Ideal.ofBits .f32 b := rfl
/-- The clipped codes of a vector at an index. -/
theorem clip_at {s : Shape} (x : FVec Ideal s .f32) (j : s.Idx) (h) :
    truncf .fp8e4m3 (minimumf (broadcast s (Scalar.ofBits .f32 0x43E00000#32)) (maximumf (broadcast s (Scalar.ofBits .f32 0xC3E00000#32)) x)) h j
      = clip (x j) := rfl

theorem ofBits_one : Ideal.ofBits .f32 0x3F800000#32 = 1 := by
  simp [Ideal.ofBits, Ideal.ieee]
  rw [← EReal.coe_mul]
  norm_num
theorem ofBits_zero : Ideal.ofBits .f32 0x00000000#32 = 0 := by
  simp [Ideal.ofBits, Ideal.ieee]

/-- At an index the exponent is the magnitude's. -/
theorem expoVec_apply {s : Shape} (z : FVec Ideal s .f32) (j : s.Idx) (a : EReal) (hz : z j = a * c448) : expoVec z j = rExp a := by
  show (if BitVec.ofBool (decide (Ideal.ofBits .f32 0x00800000#32 ≤ z j)) = 1#1
    then Ideal.liftRound Int.floor (Ideal.div (Ideal.log (z j)) (Ideal.log (Ideal.ofBits .f32 0x40000000#32))) + Ideal.ofBits .f32 0x3F800000#32
    else Ideal.ofBits .f32 0x00000000#32) = rExp a
  rw [hz, ofBits_one, ofBits_zero]
  unfold rExp
  by_cases h : Ideal.ofBits .f32 0x00800000#32 ≤ a * c448 <;> simp [h]

end Cert.Attn

end
-- ==== Proof.RefQuant.lean ====
/- THE REFERENCE'S QUERY QUANTISER read at an index: the exponent of a block, its codes and its scale. -/
module

public import proofs.«01_k».proof.Proof.RefExpo
public import proofs.«01_k».proof.Proof.Gen.ReferenceIdeal.Frame
public import Idealize.ShloMosaic.Lib.ValueIdxRank6
public import Idealize.ShloMosaic.Lib.Pipeline.Value

@[expose] public section

set_option synthInstance.maxSize 4096
set_option maxRecDepth 65536

noncomputable section

namespace Cert.ReferenceIdeal.Body

open Cert.ReferenceIdeal Cert.ReferenceIdeal.Gen Cert.Attn Idealize.ShloMosaic Idealize.SL.Sem

variable (x : Vec Ideal S8x4096x4096 .bf16) (b h : Fin 8) (g : Fin 4) (s : Fin 32)

/-- The activations by blocks and heads. -/
theorem pay2_apply (t d : Fin 128) : k0_pay2 x (ix6 b s t h g d) = x (ix3 b (row s t) (col h g d)) := by
  unfold k0_pay2
  show shapeCast S8x32x128x8x4x128 x shapeCasts_S8x4096x4096_S8x32x128x8x4x128 (ix6 b s t h g d) = _
  refine shapeCast_apply x _ _ _ ?_
  rw [Shape.rowMajor_val_three, Shape.rowMajor_val_six]
  show (b.val * 4096 + (128 * s.val + t.val)) * 4096 + (512 * h.val + (128 * g.val + d.val))
    = ((((b.val * 32 + s.val) * 128 + t.val) * 8 + h.val) * 4 + g.val) * 128 + d.val
  omega

/-- The largest magnitude of a block, as the reduction gives it. -/
theorem mag_eq : (Finset.univ.filter fun i : S8x32x128x8x4x128.Idx => reduces_S8x32x128x8x4x128_S8x32x8x4.drop i = ix4 b s h g).sup
    (fun i => max (k0_pay2 x i) (-k0_pay2 x i)) = xMag x b h g s := by
  apply le_antisymm
  · refine Finset.sup_le fun i hi => ?_
    have hd := (Finset.mem_filter.1 hi).2
    have e : i = ix6 b s (show Fin 128 from i 2) h g (show Fin 128 from i 5) := by
      have c0 := (reduces_S8x32x128x8x4x128_S8x32x8x4.drop_apply_val_of_eq i 0 0).symm
      have c1 := (reduces_S8x32x128x8x4x128_S8x32x8x4.drop_apply_val_of_eq i 1 1).symm
      have c3 := (reduces_S8x32x128x8x4x128_S8x32x8x4.drop_apply_val_of_eq i 2 3).symm
      have c4 := (reduces_S8x32x128x8x4x128_S8x32x8x4.drop_apply_val_of_eq i 3 4).symm
      rw [hd] at c0 c1 c3 c4
      funext a
      apply Fin.ext
      match a with
      | ⟨0, _⟩ => exact c0
      | ⟨1, _⟩ => exact c1
      | ⟨2, _⟩ => rfl
      | ⟨3, _⟩ => exact c3
      | ⟨4, _⟩ => exact c4
      | ⟨5, _⟩ => rfl
    rw [e, pay2_apply x b h g s]
    exact Finset.le_sup (f := fun p : Fin 128 × Fin 128 => max (x (ix3 b (row s p.1) (col h g p.2))) (-x (ix3 b (row s p.1) (col h g p.2))))
      (Finset.mem_univ ((show Fin 128 from i 2), (show Fin 128 from i 5)))
  · refine Finset.sup_le fun p _ => ?_
    rw [← pay2_apply x b h g s]
    refine Finset.le_sup (f := fun i => max (k0_pay2 x i) (-k0_pay2 x i)) (Finset.mem_filter.2 ⟨Finset.mem_univ _, ?_⟩)
    funext a
    apply Fin.ext
    match a with
    | ⟨0, _⟩ => exact reduces_S8x32x128x8x4x128_S8x32x8x4.drop_apply_val_of_eq _ 0 0
    | ⟨1, _⟩ => exact reduces_S8x32x128x8x4x128_S8x32x8x4.drop_apply_val_of_eq _ 1 1
    | ⟨2, _⟩ => exact reduces_S8x32x128x8x4x128_S8x32x8x4.drop_apply_val_of_eq _ 2 3
    | ⟨3, _⟩ => exact reduces_S8x32x128x8x4x128_S8x32x8x4.drop_apply_val_of_eq _ 3 4

/-- The largest magnitudes of the blocks. -/
def magVec (x : Vec Ideal S8x4096x4096 .bf16) : FVec Ideal S8x32x8x4 .f32 :=
  multiReduction .maximumf [2, 5] S8x32x8x4 (absf (k0_pay2 x)) 0xFF800000#32 reduces_S8x32x128x8x4x128_S8x32x8x4 (.inl rfl) rfl

theorem magVec_apply : magVec x (ix4 b s h g) = xMag x b h g s :=
  ((multiReduction_maximumf_eq_fold _ _ _ _ _ _).trans (fold_max_eq_sup _ _)).trans (mag_eq x b h g s)

theorem pay3_eq : k0_pay3 x = expoVec (mulf (shapeCast S8x32x1x8x4x1 (magVec x) shapeCasts_S8x32x8x4_S8x32x1x8x4x1)
    (broadcast S8x32x1x8x4x1 (Scalar.ofBits .f32 0x3B124925#32))) := rfl

theorem cast_mag (w : FVec Ideal S8x32x8x4 .f32) :
    shapeCast S8x32x1x8x4x1 w shapeCasts_S8x32x8x4_S8x32x1x8x4x1 (ix6 b s 0 h g 0) = w (ix4 b s h g) := by
  refine shapeCast_apply w _ _ (ix4 b s h g) ?_
  rw [Shape.rowMajor_val_four, Shape.rowMajor_val_six]
  show ((b.val * 32 + s.val) * 8 + h.val) * 4 + g.val
    = ((((b.val * 32 + s.val) * 1 + 0) * 8 + h.val) * 4 + g.val) * 1 + 0
  omega

/-- The exponent of a block. -/
theorem pay3_apply : k0_pay3 x (ix6 b s 0 h g 0) = rExp (xMag x b h g s) := by
  rw [pay3_eq]
  refine expoVec_apply _ _ _ ?_
  rw [← magVec_apply, mulf_at, cast_mag, broadcast_at]

theorem bcast_block (w : FVec Ideal S8x32x1x8x4x1 .f32) (t d : Fin 128) :
    broadcastTo S8x32x128x8x4x128 w broadcasts_S8x32x1x8x4x1_S8x32x128x8x4x128 (ix6 b s t h g d) = w (ix6 b s 0 h g 0) := by
  refine broadcastTo_apply w _ _ (ix6 b s 0 h g 0) fun a => ?_
  match a with
  | ⟨0, _⟩ => rfl
  | ⟨1, _⟩ => rfl
  | ⟨2, _⟩ => rfl
  | ⟨3, _⟩ => rfl
  | ⟨4, _⟩ => rfl
  | ⟨5, _⟩ => rfl

/-- The codes of a block. -/
theorem pay4_apply (t d : Fin 128) : k0_pay4 x (ix6 b s t h g d) = xCode x b h g s t d := by
  unfold k0_pay4
  rw [clip_at, mulf_at, bcast_block, exp2_at, subf_at, broadcast_at, ofBits_zero, pay3_apply, pay2_apply]
  rfl

theorem cast_codes (w : FVec Ideal S8x32x128x8x4x128 .fp8e4m3) (t d : Fin 128) :
    shapeCast S8x4096x4096 w shapeCasts_S8x32x128x8x4x128_S8x4096x4096 (ix3 b (row s t) (col h g d)) = w (ix6 b s t h g d) := by
  refine shapeCast_apply w _ _ _ ?_
  rw [Shape.rowMajor_val_three, Shape.rowMajor_val_six]
  show ((((b.val * 32 + s.val) * 128 + t.val) * 8 + h.val) * 4 + g.val) * 128 + d.val
    = (b.val * 4096 + (128 * s.val + t.val)) * 4096 + (512 * h.val + (128 * g.val + d.val))
  omega

/-- The codes by rows and columns of the activations. -/
theorem pay5_apply (t d : Fin 128) : k0_pay5 x (ix3 b (row s t) (col h g d)) = xCode x b h g s t d := by
  unfold k0_pay5
  rw [cast_codes, pay4_apply]

theorem cast_scales (w : FVec Ideal S8x32x1x8x4x1 .f32) :
    shapeCast S8x32x8x4 w shapeCasts_S8x32x1x8x4x1_S8x32x8x4 (ix4 b s h g) = w (ix6 b s 0 h g 0) := by
  refine shapeCast_apply w _ _ (ix6 b s 0 h g 0) ?_
  rw [Shape.rowMajor_val_four, Shape.rowMajor_val_six]
  show ((((b.val * 32 + s.val) * 1 + 0) * 8 + h.val) * 4 + g.val) * 1 + 0
    = ((b.val * 32 + s.val) * 8 + h.val) * 4 + g.val
  omega

theorem transpose_scales (w : FVec Ideal S8x32x8x4 .f32) :
    transpose S8x8x32x4 [0, 2, 1, 3] w transposes_S8x32x8x4_p0_2_1_3_S8x8x32x4 (ix4 b h s g) = w (ix4 b s h g) := by
  refine transpose_apply _ w _ _ (ix4 b s h g) fun b => ?_
  match b with
  | ⟨0, _⟩ => rfl
  | ⟨1, _⟩ => rfl
  | ⟨2, _⟩ => rfl
  | ⟨3, _⟩ => rfl

/-- The scales. -/
theorem pay6_apply : k0_pay6 x (ix4 b h s g) = xScale x b h g s := by
  unfold k0_pay6 xScale
  rw [transpose_scales, cast_scales, exp2_at, pay3_apply]

/-- The scales over their lanes. -/
theorem pay7_apply (l : Fin 128) : k0_pay7 x (ix5 b h s g l) = xScale x b h g s := by
  rw [← pay6_apply]
  pointwise [k0_pay7]

end Cert.ReferenceIdeal.Body

end
-- ==== Proof.RefLayout.lean ====
/- THE REFERENCE'S LAYOUT OPERATIONS around its attention, each read at an index: every lemma says at which index of the operand the
   result's index looks. -/
module

public import proofs.«01_k».proof.Proof.RefExpo
public import proofs.«01_k».proof.Proof.Gen.ReferenceIdeal.Frame
public import Idealize.ShloMosaic.Lib.ValueIdxRank6
public import Idealize.ShloMosaic.Lib.Pipeline.Value

@[expose] public section

set_option synthInstance.maxSize 4096
set_option maxRecDepth 65536

noncomputable section

namespace Cert.ReferenceIdeal.Body

open Cert.ReferenceIdeal Cert.ReferenceIdeal.Gen Cert.Attn Idealize.ShloMosaic Idealize.SL.Sem

/-- A batch and its key head. -/
def hd (b h : Fin 8) : Fin 64 := ⟨8 * b.val + h.val, by omega⟩
/-- A query head and its row. -/
def qrow (g : Fin 4) (s : Fin 32) (t : Fin 128) : Fin 16384 := ⟨4096 * g.val + (128 * s.val + t.val), by omega⟩
/-- A query head and its block. -/
def gs (g : Fin 4) (s : Fin 32) : Fin 128 := ⟨32 * g.val + s.val, by omega⟩
/-- A head and its block of keys. -/
def hn (B : Fin 64) (n : Fin 32) : Fin 2048 := ⟨32 * B.val + n.val, by omega⟩

theorem q_cast {φ : FTy} (w : FVec Ideal S8x8x4x32x128x128 φ) (b : Fin 8) (h : Fin 8) (g : Fin 4) (s : Fin 32) (t : Fin 128) (d : Fin 128) :
    shapeCast S64x16384x128 w shapeCasts_S8x8x4x32x128x128_S64x16384x128 (ix3 (hd b h) (qrow g s t) d) = w (ix6 b h g s t d) := by
  refine shapeCast_apply w _ _ (ix6 b h g s t d) ?_
  rw [Shape.rowMajor_val_six, Shape.rowMajor_val_three]
  show (((((b.val * 8 + h.val) * 4 + g.val) * 32 + s.val) * 128 + t.val) * 128 + d.val) = (((8 * b.val + h.val) * 16384 + (4096 * g.val + (128 * s.val + t.val))) * 128 + d.val)
  omega

theorem q_perm {φ : FTy} (w : FVec Ideal S8x32x128x8x4x128 φ) (b : Fin 8) (s : Fin 32) (t : Fin 128) (h : Fin 8) (g : Fin 4) (d : Fin 128) :
    transpose S8x8x4x32x128x128 [0, 3, 4, 1, 2, 5] w transposes_S8x32x128x8x4x128_p0_3_4_1_2_5_S8x8x4x32x128x128 (ix6 b h g s t d) = w (ix6 b s t h g d) := by
  refine transpose_apply _ w _ _ (ix6 b s t h g d) fun b => ?_
  match b with
  | ⟨0, _⟩ => rfl
  | ⟨1, _⟩ => rfl
  | ⟨2, _⟩ => rfl
  | ⟨3, _⟩ => rfl
  | ⟨4, _⟩ => rfl
  | ⟨5, _⟩ => rfl

theorem k_cast {φ : FTy} (w : FVec Ideal S8x4096x1024 φ) (b : Fin 8) (c : Fin 4096) (h : Fin 8) (d : Fin 128) :
    shapeCast S8x4096x8x128 w shapeCasts_S8x4096x1024_S8x4096x8x128 (ix4 b c h d) = w (ix3 b c (kcol h d)) := by
  refine shapeCast_apply w _ _ (ix3 b c (kcol h d)) ?_
  rw [Shape.rowMajor_val_three, Shape.rowMajor_val_four]
  show ((b.val * 4096 + c.val) * 1024 + (128 * h.val + d.val)) = (((b.val * 4096 + c.val) * 8 + h.val) * 128 + d.val)
  omega

theorem k_perm {φ : FTy} (w : FVec Ideal S8x4096x8x128 φ) (b : Fin 8) (c : Fin 4096) (h : Fin 8) (d : Fin 128) :
    transpose S8x8x4096x128 [0, 2, 1, 3] w transposes_S8x4096x8x128_p0_2_1_3_S8x8x4096x128 (ix4 b h c d) = w (ix4 b c h d) := by
  refine transpose_apply _ w _ _ (ix4 b c h d) fun b => ?_
  match b with
  | ⟨0, _⟩ => rfl
  | ⟨1, _⟩ => rfl
  | ⟨2, _⟩ => rfl
  | ⟨3, _⟩ => rfl

theorem k_cast2 {φ : FTy} (w : FVec Ideal S8x8x4096x128 φ) (b : Fin 8) (h : Fin 8) (c : Fin 4096) (d : Fin 128) :
    shapeCast S64x4096x128 w shapeCasts_S8x8x4096x128_S64x4096x128 (ix3 (hd b h) c d) = w (ix4 b h c d) := by
  refine shapeCast_apply w _ _ (ix4 b h c d) ?_
  rw [Shape.rowMajor_val_four, Shape.rowMajor_val_three]
  show (((b.val * 8 + h.val) * 4096 + c.val) * 128 + d.val) = (((8 * b.val + h.val) * 4096 + c.val) * 128 + d.val)
  omega

theorem qs_perm {φ : FTy} (w : FVec Ideal S8x8x32x4 φ) (b : Fin 8) (h : Fin 8) (s : Fin 32) (g : Fin 4) :
    transpose S8x8x4x32 [0, 1, 3, 2] w transposes_S8x8x32x4_p0_1_3_2_S8x8x4x32 (ix4 b h g s) = w (ix4 b h s g) := by
  refine transpose_apply _ w _ _ (ix4 b h s g) fun b => ?_
  match b with
  | ⟨0, _⟩ => rfl
  | ⟨1, _⟩ => rfl
  | ⟨2, _⟩ => rfl
  | ⟨3, _⟩ => rfl

theorem qs_cast {φ : FTy} (w : FVec Ideal S8x8x4x32 φ) (b : Fin 8) (h : Fin 8) (g : Fin 4) (s : Fin 32) :
    shapeCast S64x128x1 w shapeCasts_S8x8x4x32_S64x128x1 (ix3 (hd b h) (gs g s) 0) = w (ix4 b h g s) := by
  refine shapeCast_apply w _ _ (ix4 b h g s) ?_
  rw [Shape.rowMajor_val_four, Shape.rowMajor_val_three]
  show (((b.val * 8 + h.val) * 4 + g.val) * 32 + s.val) = (((8 * b.val + h.val) * 128 + (32 * g.val + s.val)) * 1 + 0)
  omega

theorem qs_bcast (w : FVec Ideal S64x128x1 .f32) (B : Fin 64) (q : Fin 128) (t : Fin 128) :
    broadcastTo S64x128x128 w broadcasts_S64x128x1_S64x128x128 (ix3 B q t) = w (ix3 B q 0) := by
  refine broadcastTo_apply w _ _ (ix3 B q 0) fun a => ?_
  match a with
  | ⟨0, _⟩ => rfl
  | ⟨1, _⟩ => rfl
  | ⟨2, _⟩ => rfl

theorem qs_cast2 {φ : FTy} (w : FVec Ideal S64x128x128 φ) (B : Fin 64) (g : Fin 4) (s : Fin 32) (t : Fin 128) :
    shapeCast S64x16384x1 w shapeCasts_S64x128x128_S64x16384x1 (ix3 B (qrow g s t) 0) = w (ix3 B (gs g s) t) := by
  refine shapeCast_apply w _ _ (ix3 B (gs g s) t) ?_
  rw [Shape.rowMajor_val_three, Shape.rowMajor_val_three]
  show ((B.val * 128 + (32 * g.val + s.val)) * 128 + t.val) = ((B.val * 16384 + (4096 * g.val + (128 * s.val + t.val))) * 1 + 0)
  omega

theorem ks_cast {φ : FTy} (w : FVec Ideal S8x8x32x1 φ) (b : Fin 8) (h : Fin 8) (n : Fin 32) :
    shapeCast S64x32x1 w shapeCasts_S8x8x32x1_S64x32x1 (ix3 (hd b h) n 0) = w (ix4 b h n 0) := by
  refine shapeCast_apply w _ _ (ix4 b h n 0) ?_
  rw [Shape.rowMajor_val_four, Shape.rowMajor_val_three]
  show (((b.val * 8 + h.val) * 32 + n.val) * 1 + 0) = (((8 * b.val + h.val) * 32 + n.val) * 1 + 0)
  omega

theorem ks_bcast (w : FVec Ideal S64x32x1 .f32) (B : Fin 64) (n : Fin 32) (a : Fin 128) :
    broadcastTo S64x32x128 w broadcasts_S64x32x1_S64x32x128 (ix3 B n a) = w (ix3 B n 0) := by
  refine broadcastTo_apply w _ _ (ix3 B n 0) fun a => ?_
  match a with
  | ⟨0, _⟩ => rfl
  | ⟨1, _⟩ => rfl
  | ⟨2, _⟩ => rfl

theorem ks_cast2 {φ : FTy} (w : FVec Ideal S64x32x128 φ) (B : Fin 64) (n : Fin 32) (a : Fin 128) :
    shapeCast S64x1x4096 w shapeCasts_S64x32x128_S64x1x4096 (ix3 B 0 (row n a)) = w (ix3 B n a) := by
  refine shapeCast_apply w _ _ (ix3 B n a) ?_
  rw [Shape.rowMajor_val_three, Shape.rowMajor_val_three]
  show ((B.val * 32 + n.val) * 128 + a.val) = ((B.val * 1 + 0) * 4096 + (128 * n.val + a.val))
  omega

theorem row_bcast (w : FVec Ideal S64x16384x1 .f32) (B : Fin 64) (r : Fin 16384) (c : Fin 4096) :
    broadcastTo S64x16384x4096 w broadcasts_S64x16384x1_S64x16384x4096 (ix3 B r c) = w (ix3 B r 0) := by
  refine broadcastTo_apply w _ _ (ix3 B r 0) fun a => ?_
  match a with
  | ⟨0, _⟩ => rfl
  | ⟨1, _⟩ => rfl
  | ⟨2, _⟩ => rfl

theorem col_bcast (w : FVec Ideal S64x1x4096 .f32) (B : Fin 64) (c : Fin 4096) (r : Fin 16384) :
    broadcastTo S64x16384x4096 w broadcasts_S64x1x4096_S64x16384x4096 (ix3 B r c) = w (ix3 B 0 c) := by
  refine broadcastTo_apply w _ _ (ix3 B 0 c) fun a => ?_
  match a with
  | ⟨0, _⟩ => rfl
  | ⟨1, _⟩ => rfl
  | ⟨2, _⟩ => rfl

theorem keep_cast {φ : FTy} (w : FVec Ideal S64x16384 φ) (B : Fin 64) (r : Fin 16384) :
    shapeCast S64x16384x1 w shapeCasts_S64x16384_S64x16384x1 (ix3 B r 0) = w (ix2 B r) := by
  refine shapeCast_apply w _ _ (ix2 B r) ?_
  rw [Shape.rowMajor_val_two, Shape.rowMajor_val_three]
  show (B.val * 16384 + r.val) = ((B.val * 16384 + r.val) * 1 + 0)
  omega

theorem p_cast {φ : FTy} (w : FVec Ideal S64x16384x4096 φ) (B : Fin 64) (r : Fin 16384) (n : Fin 32) (a : Fin 128) :
    shapeCast S64x16384x32x128 w shapeCasts_S64x16384x4096_S64x16384x32x128 (ix4 B r n a) = w (ix3 B r (row n a)) := by
  refine shapeCast_apply w _ _ (ix3 B r (row n a)) ?_
  rw [Shape.rowMajor_val_three, Shape.rowMajor_val_four]
  show ((B.val * 16384 + r.val) * 4096 + (128 * n.val + a.val)) = (((B.val * 16384 + r.val) * 32 + n.val) * 128 + a.val)
  omega

theorem p_perm {φ : FTy} (w : FVec Ideal S64x16384x32x128 φ) (B : Fin 64) (r : Fin 16384) (n : Fin 32) (a : Fin 128) :
    transpose S64x32x16384x128 [0, 2, 1, 3] w transposes_S64x16384x32x128_p0_2_1_3_S64x32x16384x128 (ix4 B n r a) = w (ix4 B r n a) := by
  refine transpose_apply _ w _ _ (ix4 B r n a) fun b => ?_
  match b with
  | ⟨0, _⟩ => rfl
  | ⟨1, _⟩ => rfl
  | ⟨2, _⟩ => rfl
  | ⟨3, _⟩ => rfl

theorem p_cast2 {φ : FTy} (w : FVec Ideal S64x32x16384x128 φ) (B : Fin 64) (n : Fin 32) (r : Fin 16384) (a : Fin 128) :
    shapeCast S2048x16384x128 w shapeCasts_S64x32x16384x128_S2048x16384x128 (ix3 (hn B n) r a) = w (ix4 B n r a) := by
  refine shapeCast_apply w _ _ (ix4 B n r a) ?_
  rw [Shape.rowMajor_val_four, Shape.rowMajor_val_three]
  show (((B.val * 32 + n.val) * 16384 + r.val) * 128 + a.val) = (((32 * B.val + n.val) * 16384 + r.val) * 128 + a.val)
  omega

theorem v_cast {φ : FTy} (w : FVec Ideal S8x8x128x4096 φ) (b : Fin 8) (h : Fin 8) (d : Fin 128) (n : Fin 32) (a : Fin 128) :
    shapeCast S64x128x32x128 w shapeCasts_S8x8x128x4096_S64x128x32x128 (ix4 (hd b h) d n a) = w (ix4 b h d (row n a)) := by
  refine shapeCast_apply w _ _ (ix4 b h d (row n a)) ?_
  rw [Shape.rowMajor_val_four, Shape.rowMajor_val_four]
  show (((b.val * 8 + h.val) * 128 + d.val) * 4096 + (128 * n.val + a.val)) = ((((8 * b.val + h.val) * 128 + d.val) * 32 + n.val) * 128 + a.val)
  omega

theorem v_perm {φ : FTy} (w : FVec Ideal S64x128x32x128 φ) (B : Fin 64) (d : Fin 128) (n : Fin 32) (a : Fin 128) :
    transpose S64x32x128x128 [0, 2, 3, 1] w transposes_S64x128x32x128_p0_2_3_1_S64x32x128x128 (ix4 B n a d) = w (ix4 B d n a) := by
  refine transpose_apply _ w _ _ (ix4 B d n a) fun b => ?_
  match b with
  | ⟨0, _⟩ => rfl
  | ⟨1, _⟩ => rfl
  | ⟨2, _⟩ => rfl
  | ⟨3, _⟩ => rfl

theorem v_cast2 {φ : FTy} (w : FVec Ideal S64x32x128x128 φ) (B : Fin 64) (n : Fin 32) (a : Fin 128) (d : Fin 128) :
    shapeCast S2048x128x128 w shapeCasts_S64x32x128x128_S2048x128x128 (ix3 (hn B n) a d) = w (ix4 B n a d) := by
  refine shapeCast_apply w _ _ (ix4 B n a d) ?_
  rw [Shape.rowMajor_val_four, Shape.rowMajor_val_three]
  show (((B.val * 32 + n.val) * 128 + a.val) * 128 + d.val) = (((32 * B.val + n.val) * 128 + a.val) * 128 + d.val)
  omega

theorem vs_cast {φ : FTy} (w : FVec Ideal S8x8x32x1 φ) (b : Fin 8) (h : Fin 8) (n : Fin 32) :
    shapeCast S64x32x1x1 w shapeCasts_S8x8x32x1_S64x32x1x1 (ix4 (hd b h) n 0 0) = w (ix4 b h n 0) := by
  refine shapeCast_apply w _ _ (ix4 b h n 0) ?_
  rw [Shape.rowMajor_val_four, Shape.rowMajor_val_four]
  show (((b.val * 8 + h.val) * 32 + n.val) * 1 + 0) = ((((8 * b.val + h.val) * 32 + n.val) * 1 + 0) * 1 + 0)
  omega

theorem vs_bcast (w : FVec Ideal S64x32x1x1 .f32) (B : Fin 64) (n : Fin 32) (r : Fin 16384) (d : Fin 128) :
    broadcastTo S64x32x16384x128 w broadcasts_S64x32x1x1_S64x32x16384x128 (ix4 B n r d) = w (ix4 B n 0 0) := by
  refine broadcastTo_apply w _ _ (ix4 B n 0 0) fun a => ?_
  match a with
  | ⟨0, _⟩ => rfl
  | ⟨1, _⟩ => rfl
  | ⟨2, _⟩ => rfl
  | ⟨3, _⟩ => rfl

theorem pv_cast {φ : FTy} (w : FVec Ideal S2048x16384x128 φ) (B : Fin 64) (n : Fin 32) (r : Fin 16384) (d : Fin 128) :
    shapeCast S64x32x16384x128 w shapeCasts_S2048x16384x128_S64x32x16384x128 (ix4 B n r d) = w (ix3 (hn B n) r d) := by
  refine shapeCast_apply w _ _ (ix3 (hn B n) r d) ?_
  rw [Shape.rowMajor_val_three, Shape.rowMajor_val_four]
  show (((32 * B.val + n.val) * 16384 + r.val) * 128 + d.val) = (((B.val * 32 + n.val) * 16384 + r.val) * 128 + d.val)
  omega

theorem o_bcast (w : FVec Ideal S64x16384x1 .f32) (B : Fin 64) (r : Fin 16384) (d : Fin 128) :
    broadcastTo S64x16384x128 w broadcasts_S64x16384x1_S64x16384x128 (ix3 B r d) = w (ix3 B r 0) := by
  refine broadcastTo_apply w _ _ (ix3 B r 0) fun a => ?_
  match a with
  | ⟨0, _⟩ => rfl
  | ⟨1, _⟩ => rfl
  | ⟨2, _⟩ => rfl

theorem o_cast {φ : FTy} (w : FVec Ideal S64x16384x128 φ) (b : Fin 8) (h : Fin 8) (g : Fin 4) (s : Fin 32) (t : Fin 128) (d : Fin 128) :
    shapeCast S8x8x4x4096x128 w shapeCasts_S64x16384x128_S8x8x4x4096x128 (ix5 b h g (row s t) d) = w (ix3 (hd b h) (qrow g s t) d) := by
  refine shapeCast_apply w _ _ (ix3 (hd b h) (qrow g s t) d) ?_
  rw [Shape.rowMajor_val_three, Shape.rowMajor_val_five]
  show (((8 * b.val + h.val) * 16384 + (4096 * g.val + (128 * s.val + t.val))) * 128 + d.val) = ((((b.val * 8 + h.val) * 4 + g.val) * 4096 + (128 * s.val + t.val)) * 128 + d.val)
  omega

theorem o_perm {φ : FTy} (w : FVec Ideal S8x8x4x4096x128 φ) (b : Fin 8) (h : Fin 8) (g : Fin 4) (c : Fin 4096) (d : Fin 128) :
    transpose S8x4096x8x4x128 [0, 3, 1, 2, 4] w transposes_S8x8x4x4096x128_p0_3_1_2_4_S8x4096x8x4x128 (ix5 b c h g d) = w (ix5 b h g c d) := by
  refine transpose_apply _ w _ _ (ix5 b h g c d) fun b => ?_
  match b with
  | ⟨0, _⟩ => rfl
  | ⟨1, _⟩ => rfl
  | ⟨2, _⟩ => rfl
  | ⟨3, _⟩ => rfl
  | ⟨4, _⟩ => rfl

theorem o_cast2 {φ : FTy} (w : FVec Ideal S8x4096x8x4x128 φ) (b : Fin 8) (c : Fin 4096) (h : Fin 8) (g : Fin 4) (d : Fin 128) :
    shapeCast S8x4096x4096 w shapeCasts_S8x4096x8x4x128_S8x4096x4096 (ix3 b c (col h g d)) = w (ix5 b c h g d) := by
  refine shapeCast_apply w _ _ (ix5 b c h g d) ?_
  rw [Shape.rowMajor_val_five, Shape.rowMajor_val_three]
  show ((((b.val * 4096 + c.val) * 8 + h.val) * 4 + g.val) * 128 + d.val) = ((b.val * 4096 + c.val) * 4096 + (512 * h.val + (128 * g.val + d.val)))
  omega

/-! ## The two products and the three reductions -/

theorem qk_apply (x : FVec Ideal S64x16384x128 .fp8e4m3) (y : FVec Ideal S64x4096x128 .fp8e4m3) (B : Fin 64) (r : Fin 16384) (c : Fin 4096) :
    matmul dot_S64x16384x128_S64x4096x128_S64x16384x4096_2_2_1_1_0_0 none x y (constant S64x16384x4096 .f32 0x00000000#32) (ix3 B r c)
      = ∑ e : Fin 128, x (ix3 B r e) * y (ix3 B c e) := by
  pointwise []

theorem pv_apply (x : FVec Ideal S2048x16384x128 .fp8e4m3) (y : FVec Ideal S2048x128x128 .fp8e4m3) (B : Fin 2048) (r : Fin 16384) (d : Fin 128) :
    matmul dot_S2048x16384x128_S2048x128x128_S2048x16384x128_2_1_1_2_0_0 none x y (constant S2048x16384x128 .f32 0x00000000#32) (ix3 B r d)
      = ∑ a : Fin 128, x (ix3 B r a) * y (ix3 B a d) := by
  pointwise []

theorem max_apply (x : FVec Ideal S64x16384x4096 .f32) (B : Fin 64) (r : Fin 16384) :
    multiReduction .maximumf [2] S64x16384 x 0xFF800000#32 reduces_S64x16384x4096_S64x16384 (.inl rfl) rfl (ix2 B r)
      = Finset.univ.sup fun c : Fin 4096 => x (ix3 B r c) := by
  pointwise []
  exact fold_max_eq_sup _ _

theorem sum_apply (x : FVec Ideal S64x16384x4096 .f32) (B : Fin 64) (r : Fin 16384) :
    multiReduction .add [2] S64x16384 x 0x00000000#32 reduces_S64x16384x4096_S64x16384 (.inl rfl) rfl (ix2 B r)
      = ∑ c : Fin 4096, x (ix3 B r c) := by
  pointwise []

theorem sumn_apply (x : FVec Ideal S64x32x16384x128 .f32) (B : Fin 64) (r : Fin 16384) (d : Fin 128) :
    multiReduction .add [1] S64x16384x128 x 0x00000000#32 reduces_S64x32x16384x128_S64x16384x128 (.inl rfl) rfl (ix3 B r d)
      = ∑ n : Fin 32, x (ix4 B n r d) := by
  pointwise []

end Cert.ReferenceIdeal.Body

end
-- ==== Proof.RefAttn.lean ====
/- THE REFERENCE'S ATTENTION read at an index: its scores, its exponentials, their codes and the output of a row. -/
module

public import proofs.«01_k».proof.Proof.RefLayout

@[expose] public section

set_option synthInstance.maxSize 4096
set_option maxRecDepth 65536

noncomputable section

namespace Cert.ReferenceIdeal.Body

open Cert.ReferenceIdeal Cert.ReferenceIdeal.Gen Cert.Attn Idealize.ShloMosaic Idealize.SL.Sem

/-! ## The scores -/

/-- The queries' codes by heads. -/
def qVec (w : FVec Ideal S8x32x128x8x4x128 .fp8e4m3) : FVec Ideal S64x16384x128 .fp8e4m3 :=
  shapeCast S64x16384x128 (transpose S8x8x4x32x128x128 [0, 3, 4, 1, 2, 5] w transposes_S8x32x128x8x4x128_p0_3_4_1_2_5_S8x8x4x32x128x128)
    shapeCasts_S8x8x4x32x128x128_S64x16384x128
/-- The keys' codes by heads. -/
def kVec (w : FVec Ideal S8x4096x1024 .fp8e4m3) : FVec Ideal S64x4096x128 .fp8e4m3 :=
  shapeCast S64x4096x128 (transpose S8x8x4096x128 [0, 2, 1, 3] (shapeCast S8x4096x8x128 w shapeCasts_S8x4096x1024_S8x4096x8x128)
    transposes_S8x4096x8x128_p0_2_1_3_S8x8x4096x128) shapeCasts_S8x8x4096x128_S64x4096x128
/-- The queries' scales by rows. -/
def qsVec (w : FVec Ideal S8x8x32x4 .f32) : FVec Ideal S64x16384x1 .f32 :=
  shapeCast S64x16384x1 (broadcastTo S64x128x128 (shapeCast S64x128x1 (shapeCast S64x128x1 (transpose S8x8x4x32 [0, 1, 3, 2] w
    transposes_S8x8x32x4_p0_1_3_2_S8x8x4x32) shapeCasts_S8x8x4x32_S64x128x1) shapeCasts_S64x128x1_S64x128x1)
    broadcasts_S64x128x1_S64x128x128) shapeCasts_S64x128x128_S64x16384x1
/-- The keys' scales by keys. -/
def ksVec (w : FVec Ideal S8x8x32x1 .f32) : FVec Ideal S64x1x4096 .f32 :=
  shapeCast S64x1x4096 (broadcastTo S64x32x128 (shapeCast S64x32x1 (shapeCast S64x32x1 w shapeCasts_S8x8x32x1_S64x32x1)
    shapeCasts_S64x32x1_S64x32x1) broadcasts_S64x32x1_S64x32x128) shapeCasts_S64x32x128_S64x1x4096
/-- The scores. -/
def scoreVec (q : FVec Ideal S64x16384x128 .fp8e4m3) (k : FVec Ideal S64x4096x128 .fp8e4m3) (qs : FVec Ideal S64x16384x1 .f32)
    (ks : FVec Ideal S64x1x4096 .f32) : FVec Ideal S64x16384x4096 .f32 :=
  mulf (matmul dot_S64x16384x128_S64x4096x128_S64x16384x4096_2_2_1_1_0_0 none q k (constant S64x16384x4096 .f32 0x00000000#32))
    (mulf (mulf (broadcastTo S64x16384x4096 qs broadcasts_S64x16384x1_S64x16384x4096)
      (broadcastTo S64x16384x4096 ks broadcasts_S64x1x4096_S64x16384x4096)) (broadcast S64x16384x4096 (Scalar.ofBits .f32 0x3DB504F3#32)))
/-- The exponentials of scores less their row's maximum. -/
def probVec (z : FVec Ideal S64x16384x4096 .f32) : FVec Ideal S64x16384x4096 .f32 :=
  exp (subf z (broadcastTo S64x16384x4096 (shapeCast S64x16384x1 (multiReduction .maximumf [2] S64x16384 z 0xFF800000#32
    reduces_S64x16384x4096_S64x16384 (.inl rfl) rfl) shapeCasts_S64x16384_S64x16384x1) broadcasts_S64x16384x1_S64x16384x4096))

variable (b h : Fin 8) (g : Fin 4) (s n : Fin 32) (t a d : Fin 128)

theorem qVec_apply (w) : qVec w (ix3 (hd b h) (qrow g s t) d) = w (ix6 b s t h g d) := by
  unfold qVec; rw [q_cast, q_perm]
theorem kVec_apply (w) (c : Fin 4096) : kVec w (ix3 (hd b h) c d) = w (ix3 b c (kcol h d)) := by
  unfold kVec; rw [k_cast2, k_perm, k_cast]
theorem qsVec_apply (w) : qsVec w (ix3 (hd b h) (qrow g s t) 0) = w (ix4 b h s g) := by
  unfold qsVec; rw [qs_cast2, qs_bcast, shapeCast_self, qs_cast, qs_perm]
theorem ksVec_apply (w) : ksVec w (ix3 (hd b h) 0 (row n a)) = w (ix4 b h n 0) := by
  unfold ksVec; rw [ks_cast2, ks_bcast, shapeCast_self, ks_cast]

/-- A score is the product of codes by the row's and the key block's factor. -/
theorem scoreVec_apply (q k qs ks) (S : Fin 32 → Fin 128 → EReal) (f : Fin 32 → EReal) (B : Fin 64) (r : Fin 16384)
    (hS : ∀ n a, S n a = ∑ e : Fin 128, k (ix3 B (row n a) e) * q (ix3 B r e))
    (hf : ∀ n a, f n = qs (ix3 B r 0) * ks (ix3 B 0 (row n a)) * Ideal.ofBits .f32 0x3DB504F3#32) :
    scoreVec q k qs ks (ix3 B r (row n a)) = S n a * f n := by
  unfold scoreVec
  rw [mulf_at, mulf_at, mulf_at, qk_apply, row_bcast, col_bcast, broadcast_at, hS, hf n a]
  simp only [mul_comm]

/-- The exponentials of a row. -/
theorem probVec_apply (z : FVec Ideal S64x16384x4096 .f32) (S : Fin 32 → Fin 128 → EReal) (f : Fin 32 → EReal) (B : Fin 64) (r : Fin 16384)
    (hz : ∀ n a, z (ix3 B r (row n a)) = S n a * f n) : probVec z (ix3 B r (row n a)) = prob S f n a := by
  unfold probVec prob rowMax
  rw [exp_at, subf_at, row_bcast, keep_cast, max_apply, sup_keys]
  simp only [hz]

theorem pay8_eq (w28 w33 w40 w50) : k0_pay8 (F := Ideal) w28 w33 w40 w50 = probVec (scoreVec (qVec w28) (kVec w40) (qsVec w33) (ksVec w50)) := rfl

/-! ## The sums and the exponents of the rows -/

/-- The sums of the rows. -/
def sumVec (p : FVec Ideal S64x16384x4096 .f32) : FVec Ideal S64x16384x1 .f32 :=
  shapeCast S64x16384x1 (multiReduction .add [2] S64x16384 p 0x00000000#32 reduces_S64x16384x4096_S64x16384 (.inl rfl) rfl)
    shapeCasts_S64x16384_S64x16384x1
/-- The exponents of the rows. -/
def pExpVec (p : FVec Ideal S64x16384x4096 .f32) : FVec Ideal S64x16384x1 .f32 :=
  expoVec (mulf (shapeCast S64x16384x1 (multiReduction .maximumf [2] S64x16384 (absf p) 0xFF800000#32 reduces_S64x16384x4096_S64x16384
    (.inl rfl) rfl) shapeCasts_S64x16384_S64x16384x1) (broadcast S64x16384x1 (Scalar.ofBits .f32 0x3B124925#32)))

theorem sumVec_apply (p) (S : Fin 32 → Fin 128 → EReal) (f : Fin 32 → EReal) (B : Fin 64) (r : Fin 16384)
    (hp : ∀ n a, p (ix3 B r (row n a)) = prob S f n a) : sumVec p (ix3 B r 0) = rowSum S f := by
  unfold sumVec rowSum
  rw [keep_cast, sum_apply, sum_keys]
  simp only [hp]

theorem pExpVec_apply (p) (S : Fin 32 → Fin 128 → EReal) (f : Fin 32 → EReal) (B : Fin 64) (r : Fin 16384)
    (hp : ∀ n a, p (ix3 B r (row n a)) = prob S f n a) : pExpVec p (ix3 B r 0) = rExp (rowMag S f) := by
  unfold pExpVec
  refine expoVec_apply _ _ _ ?_
  rw [mulf_at, keep_cast, max_apply, sup_keys, broadcast_at]
  simp only [absf_at, hp]
  rfl

/-! ## The output -/

/-- The codes of the exponentials. -/
def pcVec (p : FVec Ideal S64x16384x4096 .f32) (e : FVec Ideal S64x16384x1 .f32) : FVec Ideal S64x16384x4096 .fp8e4m3 :=
  truncf .fp8e4m3 (minimumf (broadcast S64x16384x4096 (Scalar.ofBits .f32 0x43E00000#32))
    (maximumf (broadcast S64x16384x4096 (Scalar.ofBits .f32 0xC3E00000#32))
      (mulf p (broadcastTo S64x16384x4096 (exp2 (subf (broadcast S64x16384x1 (Scalar.ofBits .f32 0x00000000#32)) e))
        broadcasts_S64x16384x1_S64x16384x4096)))) bitsLt_fp8e4m3_f32
/-- The codes of the exponentials by blocks of keys. -/
def pbVec (w : FVec Ideal S64x16384x4096 .fp8e4m3) : FVec Ideal S2048x16384x128 .fp8e4m3 :=
  shapeCast S2048x16384x128 (transpose S64x32x16384x128 [0, 2, 1, 3] (shapeCast S64x16384x32x128 w
    shapeCasts_S64x16384x4096_S64x16384x32x128) transposes_S64x16384x32x128_p0_2_1_3_S64x32x16384x128) shapeCasts_S64x32x16384x128_S2048x16384x128
/-- The values' codes by blocks of keys. -/
def vbVec (w : FVec Ideal S8x8x128x4096 .fp8e4m3) : FVec Ideal S2048x128x128 .fp8e4m3 :=
  shapeCast S2048x128x128 (transpose S64x32x128x128 [0, 2, 3, 1] (shapeCast S64x128x32x128 w shapeCasts_S8x8x128x4096_S64x128x32x128)
    transposes_S64x128x32x128_p0_2_3_1_S64x32x128x128) shapeCasts_S64x32x128x128_S2048x128x128
/-- The sum over the blocks of keys of the scaled products. -/
def accVec (p : FVec Ideal S2048x16384x128 .fp8e4m3) (v : FVec Ideal S2048x128x128 .fp8e4m3) (w : FVec Ideal S8x8x32x1 .f32) :
    FVec Ideal S64x16384x128 .f32 :=
  multiReduction .add [1] S64x16384x128 (mulf (shapeCast S64x32x16384x128
      (matmul dot_S2048x16384x128_S2048x128x128_S2048x16384x128_2_1_1_2_0_0 none p v (constant S2048x16384x128 .f32 0x00000000#32))
      shapeCasts_S2048x16384x128_S64x32x16384x128)
    (broadcastTo S64x32x16384x128 (shapeCast S64x32x1x1 w shapeCasts_S8x8x32x1_S64x32x1x1) broadcasts_S64x32x1x1_S64x32x16384x128))
    0x00000000#32 reduces_S64x32x16384x128_S64x16384x128 (.inl rfl) rfl
/-- The output by rows and columns of the activations. -/
def outVec (o : FVec Ideal S64x16384x128 .f32) (e l : FVec Ideal S64x16384x1 .f32) : FVec Ideal S8x4096x4096 .f32 :=
  shapeCast S8x4096x4096 (transpose S8x4096x8x4x128 [0, 3, 1, 2, 4] (shapeCast S8x8x4x4096x128
    (mulf o (broadcastTo S64x16384x128 (divf (exp2 e) l) broadcasts_S64x16384x1_S64x16384x128))
    shapeCasts_S64x16384x128_S8x8x4x4096x128) transposes_S8x8x4x4096x128_p0_3_1_2_4_S8x4096x8x4x128) shapeCasts_S8x4096x8x4x128_S8x4096x4096

theorem pcVec_apply (p e) (B : Fin 64) (r : Fin 16384) (c : Fin 4096) :
    pcVec p e (ix3 B r c) = clip (p (ix3 B r c) * Ideal.exp2 (0 - e (ix3 B r 0))) := by
  unfold pcVec
  rw [clip_at, mulf_at, row_bcast, exp2_at, subf_at, broadcast_at, ofBits_zero]
theorem pbVec_apply (w) (B : Fin 64) (r : Fin 16384) : pbVec w (ix3 (hn B n) r a) = w (ix3 B r (row n a)) := by
  unfold pbVec; rw [p_cast2, p_perm, p_cast]
theorem vbVec_apply (w) : vbVec w (ix3 (hn (hd b h) n) a d) = w (ix4 b h d (row n a)) := by
  unfold vbVec; rw [v_cast2, v_perm, v_cast]
theorem accVec_apply (p v w) (r : Fin 16384) : accVec p v w (ix3 (hd b h) r d)
    = ∑ n, (∑ a : Fin 128, p (ix3 (hn (hd b h) n) r a) * v (ix3 (hn (hd b h) n) a d)) * w (ix4 b h n 0) := by
  unfold accVec
  rw [sumn_apply]
  refine Finset.sum_congr rfl fun n _ => ?_
  rw [mulf_at, pv_cast, pv_apply, vs_bcast, vs_cast]
theorem outVec_apply (o e l) : outVec o e l (ix3 b (row s t) (col h g d))
    = o (ix3 (hd b h) (qrow g s t) d) * Ideal.div (Ideal.exp2 (e (ix3 (hd b h) (qrow g s t) 0))) (l (ix3 (hd b h) (qrow g s t) 0)) := by
  unfold outVec
  rw [o_cast2, o_perm, o_cast, mulf_at, o_bcast, divf_at, exp2_at]

theorem pay1_eq (w28 w33 w40 w50 w98 w103) : k0_pay1 (F := Ideal) (k0_pay8 w28 w33 w40 w50) (k0_pay9 w28 w33 w40 w50) (k0_pay11 w28 w33 w40 w50)
      (k0_pay12 w28 w33 w40 w50) w98 w103
    = outVec (accVec (pbVec (pcVec (k0_pay8 w28 w33 w40 w50) (pExpVec (k0_pay8 w28 w33 w40 w50)))) (vbVec w98) w103)
        (pExpVec (k0_pay8 w28 w33 w40 w50)) (sumVec (k0_pay8 w28 w33 w40 w50)) := rfl

/-- THE OUTPUT OF A ROW: the common arrangement over the row's products and factors. -/
theorem out_apply (w28 w33 w40 w50 w98 w103) (S : Fin 32 → Fin 128 → EReal) (f : Fin 32 → EReal)
    (hS : ∀ n a, S n a = ∑ e : Fin 128, w40 (ix3 b (row n a) (kcol h e)) * w28 (ix6 b s t h g e))
    (hf : ∀ n, f n = w33 (ix4 b h s g) * w50 (ix4 b h n 0) * Ideal.ofBits .f32 0x3DB504F3#32) :
    k0_pay1 (F := Ideal) (k0_pay8 w28 w33 w40 w50) (k0_pay9 w28 w33 w40 w50) (k0_pay11 w28 w33 w40 w50) (k0_pay12 w28 w33 w40 w50) w98 w103
        (ix3 b (row s t) (col h g d))
      = rowOut S f (fun n a => w98 (ix4 b h d (row n a))) (fun n => w103 (ix4 b h n 0)) := by
  have hp : ∀ n a, k0_pay8 (F := Ideal) w28 w33 w40 w50 (ix3 (hd b h) (qrow g s t) (row n a)) = prob S f n a := by
    intro n a
    rw [pay8_eq]
    refine probVec_apply n a _ S f _ _ fun n a => scoreVec_apply n a _ _ _ _ S f _ _ ?_ ?_
    · intro n a; rw [hS]; simp only [kVec_apply, qVec_apply]
    · intro n a; rw [hf, qsVec_apply, ksVec_apply]
  rw [pay1_eq, outVec_apply, accVec_apply, sumVec_apply _ S f _ _ hp, pExpVec_apply _ S f _ _ hp]
  unfold rowOut
  simp only [pbVec_apply, vbVec_apply, pcVec_apply, hp, pExpVec_apply _ S f _ _ hp]

end Cert.ReferenceIdeal.Body

end
-- ==== Proof.RefArray.lean ====
/- THE REFERENCE'S THREE ARRAYS as functions of the argument arrays. -/
module

public import proofs.«01_k».proof.Proof.RefQuant
public import proofs.«01_k».proof.Proof.RefAttn
public import proofs.«01_k».proof.Proof.Gen.ReferenceIdeal.Value

@[expose] public section

set_option synthInstance.maxSize 4096
set_option maxRecDepth 65536

noncomputable section

namespace Cert.ReferenceIdeal.Body

open Cert.ReferenceIdeal Cert.ReferenceIdeal.Gen Cert.Attn Idealize.ShloMosaic Idealize.SL.Sem

variable (a0 : Vec Ideal S8x4096x4096 .bf16) (a1 : Vec Ideal S8x4096x1024 .fp8e4m3) (a2 : Vec Ideal S8x8x128x4096 .fp8e4m3)
  (a3 a4 : Vec Ideal S8x8x32x128 .f32)

/-- An index of the activations by its block, row, heads and column. -/
theorem idx_split (i : S8x4096x4096.Idx) :
    i = ix3 (i 0) (row (sOf (i 1)) (lOf (i 1))) (col (hOf (i 2)) (gOf (i 2)) (lOf (i 2))) :=
  (ix3_eta i).symm.trans (congrArg₂ (ix3 (show Fin 8 from i 0)) (row_of (i 1)).symm (col_of (i 2)).symm)

/-- The codes. -/
theorem G6_eq : Cert.ReferenceIdeal.Value.G6 a0 a1 a2 a3 a4 = cArr a0 := by
  funext i
  exact (congrArg (k0_pay5 a0) (idx_split i)).trans (pay5_apply a0 _ _ _ _ _ _)

/-- The scales. -/
theorem G7_eq : Cert.ReferenceIdeal.Value.G7 a0 a1 a2 a3 a4 = sArr a0 := by
  funext i
  have e : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  exact (congrArg (k0_pay7 a0) e).trans (pay7_apply a0 _ _ _ _ _)

theorem pay13_eq : k0_pay13 a0 a1 a2 a3 a4 = k0_pay4 a0 := by
  unfold k0_pay13
  rw [View.ld_unit_zero (S := S8x4096x4096) Cert.ReferenceIdeal.Value.hz0 _ a0]
theorem pay14_eq : k0_pay14 a0 a1 a2 a3 a4 = k0_pay6 a0 := by
  unfold k0_pay14
  rw [View.ld_unit_zero (S := S8x4096x4096) Cert.ReferenceIdeal.Value.hz0 _ a0]
theorem ld3_apply (a3 : Vec Ideal S8x8x32x128 .f32) (b h : Fin 8) (n : Fin 32) : View.ld a3 r0_3 (ix4 b h n 0) = a3 (ix4 b h n 0) := by
  show a3 _ = a3 _
  congr 1
  funext a
  apply Fin.ext
  match a with
  | ⟨0, _⟩ => show 0 + 1 * b.val = b.val; omega
  | ⟨1, _⟩ => show 0 + 1 * h.val = h.val; omega
  | ⟨2, _⟩ => show 0 + 1 * n.val = n.val; omega
  | ⟨3, _⟩ => rfl

/-- The output at its coordinates. -/
theorem y_apply (b h : Fin 8) (g : Fin 4) (s : Fin 32) (t d : Fin 128) :
    Cert.ReferenceIdeal.Value.G5 a0 a1 a2 a3 a4 (ix3 b (row s t) (col h g d)) = yVal a0 a1 a2 a3 a4 b h g s t d := by
  unfold Cert.ReferenceIdeal.Value.G5
  refine (out_apply b h g s t d _ _ _ _ _ _ (xDot a0 a1 b h g s t) (xFac a0 a3 b h g s) ?_ ?_).trans ?_
  · intro n a
    rw [pay13_eq]
    simp only [pay4_apply]
    rfl
  · intro n
    rw [pay14_eq, pay6_apply, ld3_apply]
    rfl
  · exact congrArg (rowOut _ _ _) (funext fun n => ld3_apply a4 b h n)

/-- The output. -/
theorem G5_eq : Cert.ReferenceIdeal.Value.G5 a0 a1 a2 a3 a4 = yArr a0 a1 a2 a3 a4 := by
  funext i
  exact (congrArg (Cert.ReferenceIdeal.Value.G5 a0 a1 a2 a3 a4) (idx_split i)).trans (y_apply a0 a1 a2 a3 a4 _ _ _ _ _ _)

end Cert.ReferenceIdeal.Body

end
-- ==== Proof.QuantFrame.lean ====
/- THE FRAME OF THE QUANTISER AS PRINTED, over any float format: it runs, its arguments end unchanged and every semaphore at zero. What it
   leaves in its results is not named here; `QuantFinal` does that for its idealisation. -/
module

public import proofs.«01_k».proof.Proof.Gen.Quant.Frame
public import proofs.«01_k».proof.Proof.Gen.Quant.Skeleton
public import Idealize.ShloMosaic.Lib.Claim

@[expose] public section

set_option maxRecDepth 16384

noncomputable section

namespace Cert.Quant.Body

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large: checking it walks past the default budget)
set_option maxHeartbeats 4352000 in
/-- The body runs on whole staging buffers: the inputs' keep what they held, the results' end with something. -/
theorem kernelRun0_A (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .fp8e4m3) (harg4 : arg4.IsWhole) (arg5 : Memref sig .tc .vmem S1x512x1024 .fp8e4m3) (harg5 : arg5.IsWhole) (arg6 : Memref sig .tc .vmem S1x8x128x512 .fp8e4m3) (harg6 : arg6.IsWhole) (arg7 : Memref sig .tc .vmem S1x8x32x128 .f32) (harg7 : arg7.IsWhole) (arg8 : Memref sig .tc .vmem S1x8x32x128 .f32) (harg8 : arg8.IsWhole)
    (x0 : Vec F S1x512x1024 .bf16) (x1 : Vec F S1x512x1024 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_quant_kv i arg2 harg2 arg3 harg3 arg4 harg4 arg5 harg5 arg6 harg6 arg7 harg7 arg8 harg8) K := by
    intro E K
    simp only [cc0_quant_kv_eq_skeleton]; unfold cc0_quant_kv_skel
    simp only [k0_part104_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part105_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

variable (m : (ℓ : Loc nD τ sig) → Buf (Elt F) ℓ) (ρ : Dev nD → PrngReg)

/-- The buffers that a point uses. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x32x128 .f32 := win0_6.stage (cfg0.slots t 6)
abbrev hs0_6 (t : Fin cfg0.N) : (ms0_6 t).IsWhole := hstage0_6 ((cfg0.slots t 6).cast nbuf0_6)

/-- The windows whose contents are left open: the five results. -/
def forgets0 : Fin 7 → Bool := fun w => w.val == 2 || w.val == 3 || w.val == 4 || w.val == 5 || w.val == 6

/-- The proof data: the arrays as launched, each input's buffer at its block, the results' buffers not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the arrays that are not results end as they were, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c))⟩, h.2⟩) (run_main_quiescent m ρ)

end Cert.Quant.Body

end
-- ==== Proof.QuantRun.lean ====
/- THE RUN OF THE QUANTISER'S BODY: on staging buffers that hold `k` and `v` the body leaves its stores, as lists of pieces, in the five
   results' buffers; the scales' buffers keep what they held wherever no store reaches. -/
module

public import proofs.«01_k».proof.Proof.Gen.QuantIdeal.Frame
public import proofs.«01_k».proof.Proof.Gen.QuantIdeal.Skeleton

@[expose] public section

-- membership in a rectangle of production extents (`View.cover_of_tiled`): the elaborator's structural look
-- recurses once per coordinate of the long axes
set_option maxRecDepth 16384

noncomputable section

namespace Cert.QuantIdeal.Body

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large: checking it walks past the default budget)
set_option maxHeartbeats 4352000 in
/-- What the body's stores leave in each result's buffer, as pieces (last first), with the proof that the body does so. -/
noncomputable def kernelRun (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .fp8e4m3) (harg4 : arg4.IsWhole) (arg5 : Memref sig .tc .vmem S1x512x1024 .fp8e4m3) (harg5 : arg5.IsWhole) (arg6 : Memref sig .tc .vmem S1x8x128x512 .fp8e4m3) (harg6 : arg6.IsWhole) (arg7 : Memref sig .tc .vmem S1x8x32x128 .f32) (harg7 : arg7.IsWhole) (arg8 : Memref sig .tc .vmem S1x8x32x128 .f32) (harg8 : arg8.IsWhole)
    (x0 : Vec F S1x512x1024 .bf16) (x1 : Vec F S1x512x1024 .bf16) :
    Σ' (L2 : List (View.Piece (Elt F) S1x512x1024 .fp8e4m3)), Σ' (L3 : List (View.Piece (Elt F) S1x512x1024 .fp8e4m3)), Σ' (L4 : List (View.Piece (Elt F) S1x8x128x512 .fp8e4m3)), Σ' (L5 : List (View.Piece (Elt F) S1x8x32x128 .f32)), { L6 : List (View.Piece (Elt F) S1x8x32x128 .f32) //
      ∀ (y5 : Vec F S1x8x32x128 .f32) (y6 : Vec F S1x8x32x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare y5 ∗ owns (c : Thread nD τ) arg8 fullShare y6
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, ⌜arg7.view.read (Elt F) f = y5⌝ ∗ arg7.view.loc (c : Thread nD τ) ↦[arg7.view.set]{fullShare} arg7.view.writes (Elt F) f L5) ∗ (∃ f, ⌜arg8.view.read (Elt F) f = y6⌝ ∗ arg8.view.loc (c : Thread nD τ) ↦[arg8.view.set]{fullShare} arg8.view.writes (Elt F) f L6)) -∗ K ⟨⟩))
          ⊢ wp frame (wpE (defs₀ (F := F)) Variants.none c none) E (cc0_quant_kv i arg2 harg2 arg3 harg3 arg4 harg4 arg5 harg5 arg6 harg6 arg7 harg7 arg8 harg8) K } := by
  refine ⟨?_, ?_, ?_, ?_, ?_, fun y5 y6 E K => ?run⟩
  case run =>
    simp only [cc0_quant_kv_eq_skeleton]; unfold cc0_quant_kv_skel
    simp only [k0_part104_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part105_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists f5; isplitr; · ipureintro; exact hf5
      iexact H5
    iexists f6; isplitr; · ipureintro; exact hf6
    iexact H6

end Cert.QuantIdeal.Body

end
-- ==== Proof.QuantCanon.lean ====
/- THE QUANTISER'S STORES, written once: each of the 32 blocks of `k` and of `v` (8 heads of 4 blocks of rows) gives one piece of codes,
   one of transposed codes and one row of scales, and the pieces that the run found are these. -/
module

public import proofs.«01_k».proof.Proof.QuantRun

@[expose] public section

set_option synthInstance.maxSize 4096
set_option maxRecDepth 65536

noncomputable section

namespace Cert.QuantIdeal.Body

open Cert.QuantIdeal Cert.QuantIdeal.Gen Idealize.ShloMosaic Idealize.SL.Sem

variable {F : FTy → Type} [FloatOps F]

/-- The codes of a block. -/
abbrev qCode (v : Vec F S1x128x128 .bf16) : FVec F S1x128x128 .fp8e4m3 := k0_pay5 (k0_pay4 v) (Scalar.ofBits .f32 0xC3E00000#32)
/-- The codes of a block, transposed. -/
abbrev qCodeT (v : Vec F S1x128x128 .bf16) : FVec F S1x1x128x128 .fp8e4m3 := k0_pay15 (k0_pay14 (k0_pay7 v) (k0_pay8 v) (k0_pay9 v))
/-- The scale of a block, on every lane. -/
abbrev qScale (v : Vec F S1x128x128 .bf16) : FVec F S1x1x1x128 .f32 := k0_pay6 (k0_pay3 v)

theorem inb_b (n : ℕ) : ∀ a, (![0, 128 * (n % 4), 128 * (n / 4 % 8)] : Fin 3 → ℕ) a + S1x128x128.size a ≤ S1x512x1024.size a := by
  have h : n % 4 < 4 := Nat.mod_lt _ (by decide)
  have h' : n / 4 % 8 < 8 := Nat.mod_lt _ (by decide)
  intro a; fin_cases a <;> simp [S1x128x128, S1x512x1024] <;> omega
theorem inb_t (n : ℕ) : ∀ a, (![0, n / 4 % 8, 0, 128 * (n % 4)] : Fin 4 → ℕ) a + S1x1x128x128.size a ≤ S1x8x128x512.size a := by
  have h : n % 4 < 4 := Nat.mod_lt _ (by decide)
  have h' : n / 4 % 8 < 8 := Nat.mod_lt _ (by decide)
  intro a; fin_cases a <;> simp [S1x1x128x128, S1x8x128x512] <;> omega

/-- The row of scales of block `n`, in the kernel's words. -/
def sWord (i : grid0.Coords) (n : ℕ) : ℕ :=
  (Scalar.indexCast (Scalar.addi (Scalar.muli (BitVec.ofNat 32 (i 1).val) 4#32) (BitVec.ofNat 32 (n % 4))) : Index).toNat
theorem sWord_eq (i : grid0.Coords) (n : ℕ) : sWord i n = 4 * (i 1).val + n % 4 := by
  have h : n % 4 < 4 := Nat.mod_lt _ (by decide)
  have := congrFun (k0_off1_eq i ⟨n % 4, h⟩) 2
  exact this
theorem inb_sc (i : grid0.Coords) (n : ℕ) : ∀ a, (![0, n / 4 % 8, sWord i n, 0] : Fin 4 → ℕ) a + S1x1x1x128.size a ≤ S1x8x32x128.size a := by
  have h : n % 4 < 4 := Nat.mod_lt _ (by decide)
  have h' : n / 4 % 8 < 8 := Nat.mod_lt _ (by decide)
  have hi : (i 1).val < 8 := (i 1).isLt
  have hs := sWord_eq i n
  intro a; fin_cases a <;> simp [S1x1x1x128, S1x8x32x128] <;> omega

/-- The rectangle of block `n`: rows `128 (n % 4)`, head `n / 4`. -/
abbrev rectB (n : ℕ) : Rect S1x512x1024 := Rect.unit ![0, 128 * (n % 4), 128 * (n / 4 % 8)] S1x128x128.size (inb_b n)
/-- Its rectangle among the transposed codes. -/
abbrev rectT (n : ℕ) : Rect S1x8x128x512 := Rect.unit ![0, n / 4 % 8, 0, 128 * (n % 4)] S1x1x128x128.size (inb_t n)
/-- Its row among the scales. -/
abbrev rectSc (i : grid0.Coords) (n : ℕ) : Rect S1x8x32x128 := Rect.unit ![0, n / 4 % 8, sWord i n, 0] S1x1x1x128.size (inb_sc i n)

/-- The codes stored, the last block first. -/
def bPieces (s : ℕ → FVec F S1x128x128 .fp8e4m3) : ℕ → List (View.Piece (Elt F) S1x512x1024 .fp8e4m3)
  | 0 => []
  | n + 1 => ⟨rectB n, s n⟩ :: bPieces s n
/-- The transposed codes stored, the last block first. -/
def tPieces (s : ℕ → FVec F S1x1x128x128 .fp8e4m3) : ℕ → List (View.Piece (Elt F) S1x8x128x512 .fp8e4m3)
  | 0 => []
  | n + 1 => ⟨rectT n, s n⟩ :: tPieces s n
/-- The scales stored, the last block first. -/
def scPieces (i : grid0.Coords) (s : ℕ → FVec F S1x1x1x128 .f32) : ℕ → List (View.Piece (Elt F) S1x8x32x128 .f32)
  | 0 => []
  | n + 1 => ⟨rectSc i n, s n⟩ :: scPieces i s n

variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .fp8e4m3) (harg4 : arg4.IsWhole) (arg5 : Memref sig .tc .vmem S1x512x1024 .fp8e4m3) (harg5 : arg5.IsWhole) (arg6 : Memref sig .tc .vmem S1x8x128x512 .fp8e4m3) (harg6 : arg6.IsWhole) (arg7 : Memref sig .tc .vmem S1x8x32x128 .f32) (harg7 : arg7.IsWhole) (arg8 : Memref sig .tc .vmem S1x8x32x128 .f32) (harg8 : arg8.IsWhole)
    (x0 : Vec F S1x512x1024 .bf16) (x1 : Vec F S1x512x1024 .bf16)

/-- The load of block `n`. -/
abbrev ldB (n : ℕ) : Vec F S1x128x128 .bf16 := View.readAt (Elt F) arg2.view (rectB n).toLoadRect (harg2.unread x0)

set_option maxHeartbeats 4000000 in
theorem L2_eq : (kernelRun c i arg2 harg2 arg3 harg3 arg4 harg4 arg5 harg5 arg6 harg6 arg7 harg7 arg8 harg8 x0 x1).1
    = bPieces (fun n => qCode (ldB arg2 harg2 x0 n)) 32 := rfl
set_option maxHeartbeats 4000000 in
theorem L3_eq : (kernelRun c i arg2 harg2 arg3 harg3 arg4 harg4 arg5 harg5 arg6 harg6 arg7 harg7 arg8 harg8 x0 x1).2.1
    = bPieces (fun n => qCode (ldB arg3 harg3 x1 n)) 32 := rfl
set_option maxHeartbeats 4000000 in
theorem L4_eq : (kernelRun c i arg2 harg2 arg3 harg3 arg4 harg4 arg5 harg5 arg6 harg6 arg7 harg7 arg8 harg8 x0 x1).2.2.1
    = tPieces (fun n => qCodeT (ldB arg3 harg3 x1 n)) 32 := rfl
set_option maxHeartbeats 4000000 in
theorem L5_eq : (kernelRun c i arg2 harg2 arg3 harg3 arg4 harg4 arg5 harg5 arg6 harg6 arg7 harg7 arg8 harg8 x0 x1).2.2.2.1
    = scPieces i (fun n => qScale (ldB arg2 harg2 x0 n)) 32 := rfl
set_option maxHeartbeats 4000000 in
theorem L6_eq : (kernelRun c i arg2 harg2 arg3 harg3 arg4 harg4 arg5 harg5 arg6 harg6 arg7 harg7 arg8 harg8 x0 x1).2.2.2.2.1
    = scPieces i (fun n => qScale (ldB arg3 harg3 x1 n)) 32 := rfl

/-- A run that gives its pieces one after the other, with the pieces named. -/
theorem sigma_pieces {A B C D E : Type _} {Φ : A → B → C → D → E → Prop} (R : Σ' a, Σ' b, Σ' c, Σ' d, {e : E // Φ a b c d e})
    {a : A} {b : B} {c : C} {d : D} {e : E} (ha : R.1 = a) (hb : R.2.1 = b) (hc : R.2.2.1 = c) (hd : R.2.2.2.1 = d) (he : R.2.2.2.2.1 = e) : Φ a b c d e := by
  subst ha hb hc hd he; exact R.2.2.2.2.2

open Idealize.ShloMosaic.TcCoe Idealize.ShloMosaic.Tactic Idealize.SL Idealize.SL.RA Idealize.SL.BI Idealize.SL.BI.BIBase Idealize.SL.BI.Laws Idealize.SL.ProofMode in
open scoped Idealize.SL.BI in
set_option maxHeartbeats 1000000 in
/-- The run of the body at a point, its stores written as these pieces. -/
theorem run_canon (y5 : Vec F S1x8x32x128 .f32) (y6 : Vec F S1x8x32x128 .f32) (E : Set ℕ) (K : PUnit → sProp (MT nD τ sig Unit (Elt F) ℕ (UR sig nD τ) ℕ)) :
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare y5 ∗ owns (c : Thread nD τ) arg8 fullShare y6
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f (bPieces (fun n => qCode (ldB arg2 harg2 x0 n)) 32)) ∗ (∃ f, arg5.view.loc (c : Thread nD τ) ↦[arg5.view.set]{fullShare} arg5.view.writes (Elt F) f (bPieces (fun n => qCode (ldB arg3 harg3 x1 n)) 32)) ∗ (∃ f, arg6.view.loc (c : Thread nD τ) ↦[arg6.view.set]{fullShare} arg6.view.writes (Elt F) f (tPieces (fun n => qCodeT (ldB arg3 harg3 x1 n)) 32)) ∗ (∃ f, ⌜arg7.view.read (Elt F) f = y5⌝ ∗ arg7.view.loc (c : Thread nD τ) ↦[arg7.view.set]{fullShare} arg7.view.writes (Elt F) f (scPieces i (fun n => qScale (ldB arg2 harg2 x0 n)) 32)) ∗ (∃ f, ⌜arg8.view.read (Elt F) f = y6⌝ ∗ arg8.view.loc (c : Thread nD τ) ↦[arg8.view.set]{fullShare} arg8.view.writes (Elt F) f (scPieces i (fun n => qScale (ldB arg3 harg3 x1 n)) 32))) -∗ K ⟨⟩))
          ⊢ wp frame (wpE (defs₀ (F := F)) Variants.none c none) E (cc0_quant_kv i arg2 harg2 arg3 harg3 arg4 harg4 arg5 harg5 arg6 harg6 arg7 harg7 arg8 harg8) K :=
  sigma_pieces (kernelRun c i arg2 harg2 arg3 harg3 arg4 harg4 arg5 harg5 arg6 harg6 arg7 harg7 arg8 harg8 x0 x1) (L2_eq c i arg2 harg2 arg3 harg3 arg4 harg4 arg5 harg5 arg6 harg6 arg7 harg7 arg8 harg8 x0 x1) (L3_eq c i arg2 harg2 arg3 harg3 arg4 harg4 arg5 harg5 arg6 harg6 arg7 harg7 arg8 harg8 x0 x1) (L4_eq c i arg2 harg2 arg3 harg3 arg4 harg4 arg5 harg5 arg6 harg6 arg7 harg7 arg8 harg8 x0 x1) (L5_eq c i arg2 harg2 arg3 harg3 arg4 harg4 arg5 harg5 arg6 harg6 arg7 harg7 arg8 harg8 x0 x1) (L6_eq c i arg2 harg2 arg3 harg3 arg4 harg4 arg5 harg5 arg6 harg6 arg7 harg7 arg8 harg8 x0 x1) y5 y6 E K

end Cert.QuantIdeal.Body

end
-- ==== Proof.QuantSpec.lean ====
/- THE QUANTISER'S RESULTS AS FUNCTIONS OF AN ARRAY of keys or values: the codes, the transposed codes and the scales, each at its coordinates:
   batch `b`, head `h`, block `s` of 128 rows, row `t` of the block, column `d` of the head. -/
module

public import proofs.«01_k».proof.Proof.Spec

@[expose] public section

noncomputable section

namespace Cert.Attn

open Idealize.ShloMosaic

/-- The head of a column of the keys and values, and the column in the head. -/
def hK (r : Fin 1024) : Fin 8 := ⟨r.val / 128, by omega⟩
def lK (r : Fin 1024) : Fin 128 := ⟨r.val % 128, by omega⟩

theorem kcol_of (r : Fin 1024) : kcol (hK r) (lK r) = r := by
  apply Fin.ext; show 128 * (r.val / 128) + r.val % 128 = r.val; omega

variable (a : (⟨3, ![8, 4096, 1024]⟩ : Shape).Idx → EReal) (b h : Fin 8) (s : Fin 32)

/-- The largest magnitude of a block. -/
def blkMag : EReal :=
  (Finset.univ : Finset (Fin 128 × Fin 128)).sup fun p => max (a (ix3 b (row s p.1) (kcol h p.2))) (-a (ix3 b (row s p.1) (kcol h p.2)))
/-- The scale of a block. -/
def blkScale : EReal := Ideal.exp2 (rExp (blkMag a b h s))
/-- A code. -/
def blkCode (t d : Fin 128) : EReal := clip (a (ix3 b (row s t) (kcol h d)) * Ideal.exp2 (0 - rExp (blkMag a b h s)))

/-- The array of the codes. -/
def kcArr : (⟨3, ![8, 4096, 1024]⟩ : Shape).Idx → EReal := fun i => blkCode a (i 0) (hK (i 2)) (sOf (i 1)) (lOf (i 1)) (lK (i 2))
/-- The array of the transposed codes. -/
def ktArr : (⟨4, ![8, 8, 128, 4096]⟩ : Shape).Idx → EReal := fun i => blkCode a (i 0) (i 1) (sOf (i 3)) (lOf (i 3)) (i 2)
/-- The array of the scales, the same on every lane. -/
def kscArr : (⟨4, ![8, 8, 32, 128]⟩ : Shape).Idx → EReal := fun i => blkScale a (i 0) (i 1) (i 2)

end Cert.Attn

end
-- ==== Proof.QuantStores.lean ====
/- WHAT ONE POINT OF THE QUANTISER LEAVES in its five buffers, as parts of five arrays of the arguments: the codes, the transposed codes
   and the scales of every block of 128 rows of a head. -/
module

public import proofs.«01_k».proof.Proof.QuantCanon
public import proofs.«01_k».proof.Proof.QuantSpec
public import Idealize.ShloMosaic.Lib.WholeRead
public import Idealize.ShloMosaic.Lib.Pipeline.Value
public import Idealize.ShloMosaic.Lib.Pipeline.Covers
public import Idealize.ShloMosaic.Lib.Pipeline.ValueKit

@[expose] public section

set_option synthInstance.maxSize 4096
set_option maxRecDepth 65536

noncomputable section

namespace Cert.QuantIdeal.Body

open Cert.QuantIdeal Cert.QuantIdeal.Gen Cert.Attn Idealize.ShloMosaic Idealize.ShloMosaic.TcCoe Idealize.SL.Sem

variable {F : FTy → Type} [FloatOps F]

/-! ## The five arrays -/

/-- The block of head `h` and rows `128 s …` of batch `b`. -/
def blkOf {α : Type} (a : S8x4096x1024.Idx → α) (b h : Fin 8) (s : Fin 32) : S1x128x128.Idx → α :=
  fun i => a (ix3 b (row s (i 1)) (kcol h (i 2)))
/-- The array of the codes. -/
def codeArr (a : Vec F S8x4096x1024 .bf16) : Vec F S8x4096x1024 .fp8e4m3 := fun y =>
  qCode (blkOf a (y 0) (hK (y 2)) (sOf (y 1))) (ix3 0 (lOf (y 1)) (lK (y 2)))
/-- The array of the transposed codes. -/
def codeTArr (a : Vec F S8x4096x1024 .bf16) : Vec F S8x8x128x4096 .fp8e4m3 := fun y =>
  qCodeT (blkOf a (y 0) (y 1) (sOf (y 3))) (ix4 0 0 (y 2) (lOf (y 3)))
/-- The array of the scales. -/
def scArr (a : Vec F S8x4096x1024 .bf16) : Vec F S8x8x32x128 .f32 := fun y =>
  qScale (blkOf a (y 0) (y 1) (y 2)) (ix4 0 0 0 (y 3))

/-! ## A list of pieces -/

theorem bPieces_agree (s : ℕ → FVec F S1x128x128 .fp8e4m3) (G : S1x512x1024.Idx → Elt F .fp8e4m3)
    (h : ∀ n < 32, ∀ x, s n x = G ((rectB n).emb x)) (N : ℕ) (hN : N ≤ 32) :
    ∀ p ∈ bPieces s N, ∀ x : p.1.shape.Idx, p.2 x = G (p.1.emb x) := by
  induction N with
  | zero => intro p hp; simp [bPieces] at hp
  | succ N ih =>
    intro p hp
    rcases List.mem_cons.1 hp with rfl | hp
    · exact h N (by omega)
    · exact ih (by omega) p hp
theorem tPieces_agree (s : ℕ → FVec F S1x1x128x128 .fp8e4m3) (G : S1x8x128x512.Idx → Elt F .fp8e4m3)
    (h : ∀ n < 32, ∀ x, s n x = G ((rectT n).emb x)) (N : ℕ) (hN : N ≤ 32) :
    ∀ p ∈ tPieces s N, ∀ x : p.1.shape.Idx, p.2 x = G (p.1.emb x) := by
  induction N with
  | zero => intro p hp; simp [tPieces] at hp
  | succ N ih =>
    intro p hp
    rcases List.mem_cons.1 hp with rfl | hp
    · exact h N (by omega)
    · exact ih (by omega) p hp
theorem scPieces_agree (i : grid0.Coords) (s : ℕ → FVec F S1x1x1x128 .f32) (G : S1x8x32x128.Idx → Elt F .f32)
    (h : ∀ n < 32, ∀ x, s n x = G ((rectSc i n).emb x)) (N : ℕ) (hN : N ≤ 32) :
    ∀ p ∈ scPieces i s N, ∀ x : p.1.shape.Idx, p.2 x = G (p.1.emb x) := by
  induction N with
  | zero => intro p hp; simp [scPieces] at hp
  | succ N ih =>
    intro p hp
    rcases List.mem_cons.1 hp with rfl | hp
    · exact h N (by omega)
    · exact ih (by omega) p hp

theorem bPieces_mem (s : ℕ → FVec F S1x128x128 .fp8e4m3) (N n : ℕ) (hn : n < N) : ∃ p ∈ bPieces s N, p.1 = rectB n := by
  induction N with
  | zero => omega
  | succ N ih =>
    by_cases h : n = N
    · subst h; exact ⟨_, List.mem_cons_self, rfl⟩
    · obtain ⟨p, hp, e⟩ := ih (by omega); exact ⟨p, List.mem_cons_of_mem _ hp, e⟩
theorem tPieces_mem (s : ℕ → FVec F S1x1x128x128 .fp8e4m3) (N n : ℕ) (hn : n < N) : ∃ p ∈ tPieces s N, p.1 = rectT n := by
  induction N with
  | zero => omega
  | succ N ih =>
    by_cases h : n = N
    · subst h; exact ⟨_, List.mem_cons_self, rfl⟩
    · obtain ⟨p, hp, e⟩ := ih (by omega); exact ⟨p, List.mem_cons_of_mem _ hp, e⟩
theorem scPieces_mem (i : grid0.Coords) (s : ℕ → FVec F S1x1x1x128 .f32) (N n : ℕ) (hn : n < N) : ∃ p ∈ scPieces i s N, p.1 = rectSc i n := by
  induction N with
  | zero => omega
  | succ N ih =>
    by_cases h : n = N
    · subst h; exact ⟨_, List.mem_cons_self, rfl⟩
    · obtain ⟨p, hp, e⟩ := ih (by omega); exact ⟨p, List.mem_cons_of_mem _ hp, e⟩

theorem bPieces_cover (s : ℕ → FVec F S1x128x128 .fp8e4m3) (y : S1x512x1024.Idx) : ∃ p ∈ bPieces s 32, y ∈ p.1.set := by
  have h0 : (y 0).val < 1 := (y 0).isLt
  have h1 : (y 1).val < 512 := (y 1).isLt
  have h2 : (y 2).val < 1024 := (y 2).isLt
  obtain ⟨p, hp, e⟩ := bPieces_mem s 32 (4 * ((y 2).val / 128) + (y 1).val / 128) (by omega)
  refine ⟨p, hp, ?_⟩
  rw [e, Rect.mem_set_unit]
  intro a
  match a with
  | ⟨0, _⟩ => show 0 ≤ (y 0).val ∧ (y 0).val < 0 + 1; omega
  | ⟨1, _⟩ =>
    show 128 * ((4 * ((y 2).val / 128) + (y 1).val / 128) % 4) ≤ (y 1).val ∧ (y 1).val < 128 * ((4 * ((y 2).val / 128) + (y 1).val / 128) % 4) + 128
    omega
  | ⟨2, _⟩ =>
    show 128 * ((4 * ((y 2).val / 128) + (y 1).val / 128) / 4 % 8) ≤ (y 2).val ∧ (y 2).val < 128 * ((4 * ((y 2).val / 128) + (y 1).val / 128) / 4 % 8) + 128
    omega
theorem tPieces_cover (s : ℕ → FVec F S1x1x128x128 .fp8e4m3) (y : S1x8x128x512.Idx) : ∃ p ∈ tPieces s 32, y ∈ p.1.set := by
  have h0 : (y 0).val < 1 := (y 0).isLt
  have h1 : (y 1).val < 8 := (y 1).isLt
  have h2 : (y 2).val < 128 := (y 2).isLt
  have h3 : (y 3).val < 512 := (y 3).isLt
  obtain ⟨p, hp, e⟩ := tPieces_mem s 32 (4 * (y 1).val + (y 3).val / 128) (by omega)
  refine ⟨p, hp, ?_⟩
  rw [e, Rect.mem_set_unit]
  intro a
  match a with
  | ⟨0, _⟩ => show 0 ≤ (y 0).val ∧ (y 0).val < 0 + 1; omega
  | ⟨1, _⟩ =>
    show (4 * (y 1).val + (y 3).val / 128) / 4 % 8 ≤ (y 1).val ∧ (y 1).val < (4 * (y 1).val + (y 3).val / 128) / 4 % 8 + 1
    omega
  | ⟨2, _⟩ => show 0 ≤ (y 2).val ∧ (y 2).val < 0 + 128; omega
  | ⟨3, _⟩ =>
    show 128 * ((4 * (y 1).val + (y 3).val / 128) % 4) ≤ (y 3).val ∧ (y 3).val < 128 * ((4 * (y 1).val + (y 3).val / 128) % 4) + 128
    omega
/-- A row of scales of the point's own four is stored, -/
theorem scPieces_cover (i : grid0.Coords) (s : ℕ → FVec F S1x1x1x128 .f32) (y : S1x8x32x128.Idx) (hy : 4 * (i 1).val ≤ (y 2).val) (hy' : (y 2).val < 4 * (i 1).val + 4) :
    ∃ p ∈ scPieces i s 32, y ∈ p.1.set := by
  have h0 : (y 0).val < 1 := (y 0).isLt
  have h1 : (y 1).val < 8 := (y 1).isLt
  have h3 : (y 3).val < 128 := (y 3).isLt
  have hw := sWord_eq i (4 * (y 1).val + ((y 2).val - 4 * (i 1).val))
  obtain ⟨p, hp, e⟩ := scPieces_mem i s 32 (4 * (y 1).val + ((y 2).val - 4 * (i 1).val)) (by omega)
  refine ⟨p, hp, ?_⟩
  rw [e, Rect.mem_set_unit]
  intro a
  match a with
  | ⟨0, _⟩ => show 0 ≤ (y 0).val ∧ (y 0).val < 0 + 1; omega
  | ⟨1, _⟩ =>
    show (4 * (y 1).val + ((y 2).val - 4 * (i 1).val)) / 4 % 8 ≤ (y 1).val ∧ (y 1).val < (4 * (y 1).val + ((y 2).val - 4 * (i 1).val)) / 4 % 8 + 1
    omega
  | ⟨2, _⟩ =>
    show sWord i (4 * (y 1).val + ((y 2).val - 4 * (i 1).val)) ≤ (y 2).val ∧ (y 2).val < sWord i (4 * (y 1).val + ((y 2).val - 4 * (i 1).val)) + 1
    omega
  | ⟨3, _⟩ => show 0 ≤ (y 3).val ∧ (y 3).val < 0 + 128; omega
/-- and a row above them is not touched. -/
theorem scPieces_miss (i : grid0.Coords) (s : ℕ → FVec F S1x1x1x128 .f32) (y : S1x8x32x128.Idx) (hy : (y 2).val < 4 * (i 1).val) (N : ℕ) :
    ∀ p ∈ scPieces i s N, y ∉ p.1.set := by
  induction N with
  | zero => intro p hp; simp [scPieces] at hp
  | succ N ih =>
    intro p hp
    rcases List.mem_cons.1 hp with rfl | hp
    · rw [Rect.mem_set_unit]
      intro h
      have h2 : sWord i N ≤ (y 2).val := (h 2).1
      have hw := sWord_eq i N
      omega
    · exact ih p hp

/-! ## The point's blocks -/

variable (m : (ℓ : Loc nD τ sig) → Buf (Elt F) ℓ) (c : Dev nD) (t : Fin cfg0.N)

/-- The keys and the values. -/
abbrev kA : Vec F S8x4096x1024 .bf16 := m ((c : Thread nD τ).loc main_arg0)
abbrev vA : Vec F S8x4096x1024 .bf16 := m ((c : Thread nD τ).loc main_arg1)

/-- The batch and the 512 rows of a grid point. -/
def pb (t : Fin cfg0.N) : Fin 8 := (grid0.coords t) 0
def pr (t : Fin cfg0.N) : Fin 8 := (grid0.coords t) 1
/-- Block `n` of a point: its head and its block of rows. -/
def hN (n : ℕ) : Fin 8 := ⟨n / 4 % 8, by omega⟩
def sN (t : Fin cfg0.N) (n : ℕ) : Fin 32 := ⟨4 * (pr t).val + n % 4, by have := (pr t).isLt; omega⟩

theorem idx3d : win0_0.index t = ![(pb t).val, (pr t).val, 0] := by
  have h0 := (pb t).isLt
  have h1 := (pr t).isLt
  funext a
  match a with
  | ⟨0, _⟩ => show (BitVec.ofNat 32 (pb t).val).toNat = (pb t).val; rw [BitVec.toNat_ofNat]; omega
  | ⟨1, _⟩ => show (BitVec.ofNat 32 (pr t).val).toNat = (pr t).val; rw [BitVec.toNat_ofNat]; omega
  | ⟨2, _⟩ => rfl
theorem idx1 : win0_1.index t = ![(pb t).val, (pr t).val, 0] := idx3d t
theorem idx2 : win0_2.index t = ![(pb t).val, (pr t).val, 0] := idx3d t
theorem idx3 : win0_3.index t = ![(pb t).val, (pr t).val, 0] := idx3d t
theorem idx4 : win0_4.index t = ![(pb t).val, 0, 0, (pr t).val] := by
  have h0 := (pb t).isLt
  have h1 := (pr t).isLt
  funext a
  match a with
  | ⟨0, _⟩ => show (BitVec.ofNat 32 (pb t).val).toNat = (pb t).val; rw [BitVec.toNat_ofNat]; omega
  | ⟨1, _⟩ => rfl
  | ⟨2, _⟩ => rfl
  | ⟨3, _⟩ => show (BitVec.ofNat 32 (pr t).val).toNat = (pr t).val; rw [BitVec.toNat_ofNat]; omega
theorem idx5 : win0_5.index t = ![(pb t).val, 0, 0, 0] := by
  have h0 := (pb t).isLt
  funext a
  match a with
  | ⟨0, _⟩ => show (BitVec.ofNat 32 (pb t).val).toNat = (pb t).val; rw [BitVec.toNat_ofNat]; omega
  | ⟨1, _⟩ => rfl
  | ⟨2, _⟩ => rfl
  | ⟨3, _⟩ => rfl
theorem idx6 : win0_6.index t = ![(pb t).val, 0, 0, 0] := idx5 t

/-- The block of keys of a point, -/
theorem iblk0_apply (y : S1x512x1024.Idx) (s : Fin 4096) (hs : s.val = 512 * (pr t).val + (y 1).val) :
    iblk m c 0 t y = kA m c (ix3 (pb t) s (y 2)) := by
  show _ = m ((c : Thread nD τ).loc main_arg0) (ix3 (pb t) s (y 2))
  rw [← V_main_arg0 m c]
  have e := idx3d t
  have h0 : (y 0).val < 1 := (y 0).isLt
  blk_simp [iblk]
  congr 1
  funext a
  apply Fin.ext
  match a with
  | ⟨0, _⟩ => blk_simp [e]; try omega
  | ⟨1, _⟩ => blk_simp [e]; show (pr t).val * 512 + (y 1).val = s.val; omega
  | ⟨2, _⟩ => blk_simp [e]; rfl
/-- and of values. -/
theorem iblk1_apply (y : S1x512x1024.Idx) (s : Fin 4096) (hs : s.val = 512 * (pr t).val + (y 1).val) :
    iblk m c 1 t y = vA m c (ix3 (pb t) s (y 2)) := by
  show _ = m ((c : Thread nD τ).loc main_arg1) (ix3 (pb t) s (y 2))
  rw [← V_main_arg1 m c]
  have e := idx1 t
  have h0 : (y 0).val < 1 := (y 0).isLt
  blk_simp [iblk]
  congr 1
  funext a
  apply Fin.ext
  match a with
  | ⟨0, _⟩ => blk_simp [e]; try omega
  | ⟨1, _⟩ => blk_simp [e]; show (pr t).val * 512 + (y 1).val = s.val; omega
  | ⟨2, _⟩ => blk_simp [e]; rfl

/-- A load of the body is a block of the array. -/
theorem ldB_eq (arg : Memref sig .tc .vmem S1x512x1024 .bf16) (harg : arg.IsWhole) (x : Vec F S1x512x1024 .bf16) (a : Vec F S8x4096x1024 .bf16)
    (hx : ∀ (y : S1x512x1024.Idx) (s : Fin 4096), s.val = 512 * (pr t).val + (y 1).val → x y = a (ix3 (pb t) s (y 2))) (n : ℕ) :
    ldB arg harg x n = blkOf a (pb t) (hN n) (sN t n) := by
  funext i
  have h1 : (i 1).val < 128 := (i 1).isLt
  have h2 : (i 2).val < 128 := (i 2).isLt
  refine (harg.readAt_unread x (rectB n).toLoadRect i).trans ?_
  have hp := (pr t).isLt
  refine (hx _ (row (sN t n) (i 1)) ?_).trans ?_
  · show 128 * (4 * (pr t).val + n % 4) + (i 1).val = 512 * (pr t).val + (128 * (n % 4) + 1 * (i 1).val); omega
  · unfold blkOf
    congr 1
    congr 1
    apply Fin.ext
    show 128 * (n / 4 % 8) + 1 * (i 2).val = 128 * (n / 4 % 8) + (i 2).val
    omega

theorem ldK (arg : Memref sig .tc .vmem S1x512x1024 .bf16) (harg : arg.IsWhole) (n : ℕ) :
    ldB arg harg (iblk m c 0 t) n = blkOf (kA m c) (pb t) (hN n) (sN t n) :=
  ldB_eq t arg harg (iblk m c 0 t) (kA m c) (iblk0_apply m c t) n
theorem ldV (arg : Memref sig .tc .vmem S1x512x1024 .bf16) (harg : arg.IsWhole) (n : ℕ) :
    ldB arg harg (iblk m c 1 t) n = blkOf (vA m c) (pb t) (hN n) (sN t n) :=
  ldB_eq t arg harg (iblk m c 1 t) (vA m c) (iblk1_apply m c t) n

/-! ## The pieces are parts of the arrays -/

/-- The codes' block as a part of the array. -/
def codeBlk (a : Vec F S8x4096x1024 .bf16) (t : Fin cfg0.N) : S1x512x1024.Idx → Elt F .fp8e4m3 := fun y =>
  codeArr a (ix3 (pb t) ⟨512 * (pr t).val + (y 1).val, by have := (pr t).isLt; have : (y 1).val < 512 := (y 1).isLt; omega⟩ (y 2))
/-- The transposed codes' block as a part of the array. -/
def codeTBlk (a : Vec F S8x4096x1024 .bf16) (t : Fin cfg0.N) : S1x8x128x512.Idx → Elt F .fp8e4m3 := fun y =>
  codeTArr a (ix4 (pb t) (y 1) (y 2) ⟨512 * (pr t).val + (y 3).val, by have := (pr t).isLt; have : (y 3).val < 512 := (y 3).isLt; omega⟩)
/-- The scales' block as a part of the array. -/
def scBlk (a : Vec F S8x4096x1024 .bf16) (t : Fin cfg0.N) : S1x8x32x128.Idx → Elt F .f32 := fun y =>
  scArr a (ix4 (pb t) (y 1) (y 2) (y 3))

theorem code_agree (a : Vec F S8x4096x1024 .bf16) (n : ℕ) (x : S1x128x128.Idx) :
    qCode (blkOf a (pb t) (hN n) (sN t n)) x = codeBlk a t ((rectB n).emb x) := by
  have h0 : (x 0).val < 1 := (x 0).isLt
  have h1 : (x 1).val < 128 := (x 1).isLt
  have h2 : (x 2).val < 128 := (x 2).isLt
  have hp := (pr t).isLt
  have e1 : hK ((rectB n).emb x 2) = hN n := by
    apply Fin.ext; show (128 * (n / 4 % 8) + 1 * (x 2).val) / 128 = n / 4 % 8; omega
  have e2 : ∀ h, sOf ⟨512 * (pr t).val + ((rectB n).emb x 1).val, h⟩ = sN t n := fun _ => by
    apply Fin.ext; show (512 * (pr t).val + (128 * (n % 4) + 1 * (x 1).val)) / 128 = 4 * (pr t).val + n % 4; omega
  have e3 : ∀ h, lOf ⟨512 * (pr t).val + ((rectB n).emb x 1).val, h⟩ = x 1 := fun _ => by
    apply Fin.ext; show (512 * (pr t).val + (128 * (n % 4) + 1 * (x 1).val)) % 128 = (x 1).val; omega
  have e4 : lK ((rectB n).emb x 2) = x 2 := by
    apply Fin.ext; show (128 * (n / 4 % 8) + 1 * (x 2).val) % 128 = (x 2).val; omega
  show _ = qCode (blkOf a (pb t) (hK ((rectB n).emb x 2)) (sOf ⟨512 * (pr t).val + ((rectB n).emb x 1).val, _⟩))
    (ix3 0 (lOf ⟨512 * (pr t).val + ((rectB n).emb x 1).val, _⟩) (lK ((rectB n).emb x 2)))
  rw [e1, e2, e3, e4]
  congr 1
  funext a
  match a with
  | ⟨0, _⟩ => exact Subsingleton.elim (α := Fin 1) _ _
  | ⟨1, _⟩ => rfl
  | ⟨2, _⟩ => rfl

theorem codeT_agree (a : Vec F S8x4096x1024 .bf16) (n : ℕ) (x : S1x1x128x128.Idx) :
    qCodeT (blkOf a (pb t) (hN n) (sN t n)) x = codeTBlk a t ((rectT n).emb x) := by
  have h0 : (x 0).val < 1 := (x 0).isLt
  have h1 : (x 1).val < 1 := (x 1).isLt
  have h2 : (x 2).val < 128 := (x 2).isLt
  have h3 : (x 3).val < 128 := (x 3).isLt
  have hp := (pr t).isLt
  have e1 : (show Fin 8 from (rectT n).emb x 1) = hN n := by
    apply Fin.ext; show n / 4 % 8 + 1 * (x 1).val = n / 4 % 8; omega
  have e2 : ∀ h, sOf ⟨512 * (pr t).val + ((rectT n).emb x 3).val, h⟩ = sN t n := fun _ => by
    apply Fin.ext; show (512 * (pr t).val + (128 * (n % 4) + 1 * (x 3).val)) / 128 = 4 * (pr t).val + n % 4; omega
  have e3 : ∀ h, lOf ⟨512 * (pr t).val + ((rectT n).emb x 3).val, h⟩ = x 3 := fun _ => by
    apply Fin.ext; show (512 * (pr t).val + (128 * (n % 4) + 1 * (x 3).val)) % 128 = (x 3).val; omega
  have e4 : (show Fin 128 from (rectT n).emb x 2) = x 2 := by
    apply Fin.ext; show 0 + 1 * (x 2).val = (x 2).val; omega
  show _ = qCodeT (blkOf a (pb t) (show Fin 8 from (rectT n).emb x 1) (sOf ⟨512 * (pr t).val + ((rectT n).emb x 3).val, _⟩))
    (ix4 0 0 (show Fin 128 from (rectT n).emb x 2) (lOf ⟨512 * (pr t).val + ((rectT n).emb x 3).val, _⟩))
  rw [e1, e2, e3, e4]
  congr 1
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem sc_agree (a : Vec F S8x4096x1024 .bf16) (n : ℕ) (x : S1x1x1x128.Idx) :
    qScale (blkOf a (pb t) (hN n) (sN t n)) x = scBlk a t ((rectSc (grid0.coords t) n).emb x) := by
  have h0 : (x 0).val < 1 := (x 0).isLt
  have h1 : (x 1).val < 1 := (x 1).isLt
  have h2 : (x 2).val < 1 := (x 2).isLt
  have h3 : (x 3).val < 128 := (x 3).isLt
  have hw : sWord (grid0.coords t) n = 4 * (pr t).val + n % 4 := sWord_eq _ n
  have e1 : (show Fin 8 from (rectSc (grid0.coords t) n).emb x 1) = hN n := by
    apply Fin.ext; show n / 4 % 8 + 1 * (x 1).val = n / 4 % 8; omega
  have e2 : (show Fin 32 from (rectSc (grid0.coords t) n).emb x 2) = sN t n := by
    apply Fin.ext; show sWord (grid0.coords t) n + 1 * (x 2).val = 4 * (pr t).val + n % 4; omega
  have e3 : (show Fin 128 from (rectSc (grid0.coords t) n).emb x 3) = x 3 := by
    apply Fin.ext; show 0 + 1 * (x 3).val = (x 3).val; omega
  show _ = qScale (blkOf a (pb t) (show Fin 8 from (rectSc (grid0.coords t) n).emb x 1) (show Fin 32 from (rectSc (grid0.coords t) n).emb x 2))
    (ix4 0 0 0 (show Fin 128 from (rectSc (grid0.coords t) n).emb x 3))
  rw [e1, e2, e3]
  congr 1
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-! ## What the buffers read back -/

/-- The codes' buffer holds its part of the array, -/
theorem left_code {κ : Kind} {sp : Space} (v : View sig κ sp S1x512x1024 .fp8e4m3) (f : v.ty.Contents (Elt F)) (a : Vec F S8x4096x1024 .bf16)
    (s : ℕ → Vec F S1x128x128 .bf16) (hs : ∀ n, s n = blkOf a (pb t) (hN n) (sN t n)) (y : S1x512x1024.Idx) :
    v.read (Elt F) (v.writes (Elt F) f (bPieces (fun n => qCode (s n)) 32)) y = codeBlk a t y :=
  View.read_writes_apply_of_pieces v f _ _ (bPieces_agree _ _ (fun n _ x => by rw [hs]; exact code_agree t a n x) 32 le_rfl) y (bPieces_cover _ y)
/-- the transposed codes' too, -/
theorem left_codeT {κ : Kind} {sp : Space} (v : View sig κ sp S1x8x128x512 .fp8e4m3) (f : v.ty.Contents (Elt F)) (a : Vec F S8x4096x1024 .bf16)
    (s : ℕ → Vec F S1x128x128 .bf16) (hs : ∀ n, s n = blkOf a (pb t) (hN n) (sN t n)) (y : S1x8x128x512.Idx) :
    v.read (Elt F) (v.writes (Elt F) f (tPieces (fun n => qCodeT (s n)) 32)) y = codeTBlk a t y :=
  View.read_writes_apply_of_pieces v f _ _ (tPieces_agree _ _ (fun n _ x => by rw [hs]; exact codeT_agree t a n x) 32 le_rfl) y (tPieces_cover _ y)
/-- and the scales' buffer up to the point's last row, if it held the rows before the point's first. -/
theorem left_sc {κ : Kind} {sp : Space} (v : View sig κ sp S1x8x32x128 .f32) (f : v.ty.Contents (Elt F)) (a : Vec F S8x4096x1024 .bf16)
    (s : ℕ → Vec F S1x128x128 .bf16) (hs : ∀ n, s n = blkOf a (pb t) (hN n) (sN t n))
    (hf : ∀ y : S1x8x32x128.Idx, (y 2).val < 4 * (pr t).val → v.read (Elt F) f y = scBlk a t y)
    (y : S1x8x32x128.Idx) (hy : (y 2).val < 4 * (pr t).val + 4) :
    v.read (Elt F) (v.writes (Elt F) f (scPieces (grid0.coords t) (fun n => qScale (s n)) 32)) y = scBlk a t y := by
  by_cases h : (y 2).val < 4 * (pr t).val
  · rw [View.read_writes_apply_of_forall_not_mem v f y _ (scPieces_miss (grid0.coords t) _ y h 32)]
    exact hf y h
  · exact View.read_writes_apply_of_pieces v f _ _ (scPieces_agree _ _ _ (fun n _ x => by rw [hs]; exact sc_agree t a n x) 32 le_rfl) y
      (scPieces_cover _ _ y (by show 4 * (pr t).val ≤ _; omega) hy)

end Cert.QuantIdeal.Body

end
-- ==== Proof.QuantBody.lean ====
/- THE QUANTISER'S RUN: each point leaves its parts of the five arrays in its buffers, the scales' buffer being filled four rows at a time
   over the eight points of a batch; at the end the five result arrays are the arrays of QuantStores.lean and the arguments are unchanged. -/
module

public import proofs.«01_k».proof.Proof.QuantStores
public import Idealize.ShloMosaic.Lib.Pipeline.DatRel
public import Idealize.ShloMosaic.Lib.Pipeline.ArrRel

@[expose] public section

set_option synthInstance.maxSize 4096
set_option maxRecDepth 65536

noncomputable section

namespace Cert.QuantIdeal.Body

open Cert.QuantIdeal Cert.QuantIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]
variable (m : (ℓ : Loc nD τ sig) → Buf (Elt F) ℓ) (ρ : Dev nD → PrngReg)

/-- The windows held to a predicate: the five results. -/
def outs : Fin 7 → Bool := fun w => w.val == 2 || w.val == 3 || w.val == 4 || w.val == 5 || w.val == 6

/-- The proof data: the arrays as launched, each input's buffer at its block; the results are described by `Left` below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d

/-- The rows of scales up to the point's last are in place. -/
def Rows (a : Vec F S8x4096x1024 .bf16) (t : Fin cfg0.N) (X : S1x8x32x128.Idx → Elt F .f32) : Prop :=
  ∀ y : S1x8x32x128.Idx, (y 2).val < 4 * (pr t).val + 4 → X y = scBlk a t y

/-- What a point leaves in the results' buffers. -/
def Left (c : Dev nD) (w : Fin cfg0.W) (t : Fin cfg0.N) (X : (cfg0.win w).block.Idx → Elt F (cfg0.win w).elt) : Prop :=
  match w with
  | ⟨0, _⟩ => True
  | ⟨1, _⟩ => True
  | ⟨2, _⟩ => ∀ y : S1x512x1024.Idx, X y = codeBlk (kA m c) t y
  | ⟨3, _⟩ => ∀ y : S1x512x1024.Idx, X y = codeBlk (vA m c) t y
  | ⟨4, _⟩ => ∀ y : S1x8x128x512.Idx, X y = codeTBlk (vA m c) t y
  | ⟨5, _⟩ => Rows (kA m c) t X
  | ⟨6, _⟩ => Rows (vA m c) t X

/-- The relational data. -/
abbrev rdat (c : Dev nD) : RDat τ (Elt F) Unit ℕ (UR sig nD τ) ℕ cfg0 c := (dat m c).toRRel outs (Left m c)

/-! ## The scales' buffers as a point finds them -/

theorem t_val (t : Fin cfg0.N) : (pr t).val = t.val % 8 ∧ (pb t).val = t.val / 8 := by
  revert t
  decide +kernel

/-- Neither scales' buffer is fetched. -/
theorem fetch_5 (t : Fin cfg0.N) : (cfg0.win 5).fetch t = false := rfl
theorem fetch_6 (t : Fin cfg0.N) : (cfg0.win 6).fetch t = false := rfl

theorem rows_prev (a : Vec F S8x4096x1024 .bf16) (t t' : Fin cfg0.N) (h : t'.val + 1 = t.val) (hm : t'.val % 8 ≠ 7)
    (X : S1x8x32x128.Idx → Elt F .f32) (hX : Rows a t' X) (y : S1x8x32x128.Idx) (hy : (y 2).val < 4 * (pr t).val) : X y = scBlk a t y := by
  have h1 := t_val t
  have h2 := t_val t'
  rw [hX y (by omega)]
  unfold scBlk
  have : pb t' = pb t := Fin.ext (by omega)
  rw [this]

/-- A point after the first of its batch finds the rows that the points before it left; -/
theorem finds_5 (c : Dev nD) (t : Fin cfg0.N) (Y) (hY : (rdat m c).Finds 5 t Y) (y : S1x8x32x128.Idx) (hy : (y 2).val < 4 * (pr t).val) :
    Y y = scBlk (kA m c) t y := by
  have h1 := t_val t
  have hpos : t.val ≠ 0 := by omega
  rcases ((rdat m c).finds_of_pos (fetch_5 t) hpos Y).1 hY with hf | hl
  · rw [flush0_5] at hf
    have : (t.val - 1) % 8 = 7 := hf
    omega
  · refine rows_prev (kA m c) t ⟨t.val - 1, _⟩ ?_ ?_ Y ((dat m c).toRRel_leaves rfl hl) y hy
    · show t.val - 1 + 1 = t.val; omega
    · show (t.val - 1) % 8 ≠ 7; omega
theorem finds_6 (c : Dev nD) (t : Fin cfg0.N) (Y) (hY : (rdat m c).Finds 6 t Y) (y : S1x8x32x128.Idx) (hy : (y 2).val < 4 * (pr t).val) :
    Y y = scBlk (vA m c) t y := by
  have h1 := t_val t
  have hpos : t.val ≠ 0 := by omega
  rcases ((rdat m c).finds_of_pos (fetch_6 t) hpos Y).1 hY with hf | hl
  · rw [flush0_6] at hf
    have : (t.val - 1) % 8 = 7 := hf
    omega
  · refine rows_prev (vA m c) t ⟨t.val - 1, _⟩ ?_ ?_ Y ((dat m c).toRRel_leaves rfl hl) y hy
    · show t.val - 1 + 1 = t.val; omega
    · show (t.val - 1) % 8 ≠ 7; omega

/-! ## The body at a point -/

/-- The buffers that a point uses. -/
abbrev ms_0 (t : Fin cfg0.N) : Memref sig .tc .vmem S1x512x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x512x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x1024 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512x1024 .fp8e4m3 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x8x128x512 .fp8e4m3 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x8x32x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x8x32x128 .f32 := win0_6.stage (cfg0.slots t 6)
abbrev hs_6 (t : Fin cfg0.N) : (ms_6 t).IsWhole := hstage0_6 ((cfg0.slots t 6).cast nbuf0_6)

/-- What the body is called with at a point, -/
def bodyPre (c : Dev nD) (t : Fin cfg0.N) : sProp (MT nD τ sig Unit (Elt F) ℕ (UR sig nD τ) ℕ) :=
  iprop((dat m c).Φ t.castSucc ∗ (dat m c).owesAt () t.castSucc
    ∗ (∃ d, owns (c : Thread nD τ) (ms_0 t) fullShare ((dat m c).before 0 t d))
    ∗ (∃ d, owns (c : Thread nD τ) (ms_1 t) fullShare ((dat m c).before 1 t d))
    ∗ (∃ Y, ⌜(rdat m c).Finds 2 t Y⌝ ∗ owns (c : Thread nD τ) (ms_2 t) fullShare Y)
    ∗ (∃ Y, ⌜(rdat m c).Finds 3 t Y⌝ ∗ owns (c : Thread nD τ) (ms_3 t) fullShare Y)
    ∗ (∃ Y, ⌜(rdat m c).Finds 4 t Y⌝ ∗ owns (c : Thread nD τ) (ms_4 t) fullShare Y)
    ∗ (∃ Y, ⌜(rdat m c).Finds 5 t Y⌝ ∗ owns (c : Thread nD τ) (ms_5 t) fullShare Y)
    ∗ (∃ Y, ⌜(rdat m c).Finds 6 t Y⌝ ∗ owns (c : Thread nD τ) (ms_6 t) fullShare Y))

/-- and what it returns. -/
def bodyPost (c : Dev nD) (t : Fin cfg0.N) : sProp (MT nD τ sig Unit (Elt F) ℕ (UR sig nD τ) ℕ) :=
  iprop((dat m c).Φ t.succ ∗ (dat m c).owesAt () t.succ
    ∗ owns (c : Thread nD τ) (ms_0 t) fullShare ((dat m c).after 0 t)
    ∗ owns (c : Thread nD τ) (ms_1 t) fullShare ((dat m c).after 1 t)
    ∗ (∃ X, ⌜Left m c 2 t X⌝ ∗ owns (c : Thread nD τ) (ms_2 t) fullShare X)
    ∗ (∃ X, ⌜Left m c 3 t X⌝ ∗ owns (c : Thread nD τ) (ms_3 t) fullShare X)
    ∗ (∃ X, ⌜Left m c 4 t X⌝ ∗ owns (c : Thread nD τ) (ms_4 t) fullShare X)
    ∗ (∃ X, ⌜Left m c 5 t X⌝ ∗ owns (c : Thread nD τ) (ms_5 t) fullShare X)
    ∗ (∃ X, ⌜Left m c 6 t X⌝ ∗ owns (c : Thread nD τ) (ms_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dat m c).Φ t.succ = (dat m c).Φ t.castSucc from rfl,
    show (dat m c).owesAt () t.succ = (dat m c).owesAt () t.castSucc from rfl,
    after_0, after_1]
  iintro ⟨HΦ, Ho, ⟨%d0, H0⟩, ⟨%d1, H1⟩, ⟨%Y2, -, H2⟩, ⟨%Y3, -, H3⟩, ⟨%Y4, -, H4⟩, ⟨%Y5, %hY5, H5⟩, ⟨%Y6, %hY6, H6⟩⟩
  iapply (run_canon c (grid0.coords t) (ms_0 t) (hs_0 t) (ms_1 t) (hs_1 t) (ms_2 t) (hs_2 t) (ms_3 t) (hs_3 t) (ms_4 t) (hs_4 t) (ms_5 t) (hs_5 t) (ms_6 t) (hs_6 t) (iblk m c 0 t) (iblk m c 1 t) Y5 Y6 Set.univ _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexact H6
  iintro ⟨H0, H1, ⟨%f2, H2⟩, ⟨%f3, H3⟩, ⟨%f4, H4⟩, ⟨%f5, %hf5, H5⟩, ⟨%f6, %hf6, H6⟩⟩
  isplitl [HΦ]; · iexact HΦ
  isplitl [Ho]; · iexact Ho
  isplitl [H0]; · iexact H0
  isplitl [H1]; · iexact H1
  isplitl [H2]
  · iexists _; isplitr
    · ipureintro; exact left_code t (ms_2 t).view f2 (kA m c) _ (ldK m c t (ms_0 t) (hs_0 t))
    · unfold owns; iexists _; isplitr
      · ipureintro; rfl
      · iexact H2
  isplitl [H3]
  · iexists _; isplitr
    · ipureintro; exact left_code t (ms_3 t).view f3 (vA m c) _ (ldV m c t (ms_1 t) (hs_1 t))
    · unfold owns; iexists _; isplitr
      · ipureintro; rfl
      · iexact H3
  isplitl [H4]
  · iexists _; isplitr
    · ipureintro; exact left_codeT t (ms_4 t).view f4 (vA m c) _ (ldV m c t (ms_1 t) (hs_1 t))
    · unfold owns; iexists _; isplitr
      · ipureintro; rfl
      · iexact H4
  isplitl [H5]
  · iexists _; isplitr
    · ipureintro
      exact left_sc t (ms_5 t).view f5 (kA m c) _ (ldK m c t (ms_0 t) (hs_0 t))
        (fun y hy => by rw [hf5]; exact finds_5 m c t Y5 hY5 y hy)
    · unfold owns; iexists _; isplitr
      · ipureintro; rfl
      · iexact H5
  · iexists _; isplitr
    · ipureintro
      exact left_sc t (ms_6 t).view f6 (vA m c) _ (ldV m c t (ms_1 t) (hs_1 t))
        (fun y hy => by rw [hf6]; exact finds_6 m c t Y6 hY6 y hy)
    · unfold owns; iexists _; isplitr
      · ipureintro; rfl
      · iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat m c) (defs₀ (F := F)) Variants.none () Set.univ outs (Left m c) := fun t => by
  rw [bigSep_W0, bigSep_W0, defs₀_row]
  exact sound_body m c t

/-! ## The run -/

set_option backward.isDefEq.respectTransparency.types false in
theorem run_main : θ_run defs (onTc (τ := τ) (main (F := F))) (s₀ m ρ)
    (fun r => (RDat.FramePost (cfgs 0) (fun c => rdat m c) (V m)) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := A_eq m) (hΦ := fun _ _ => rfl)

/-- The arguments end unchanged. -/
theorem unchanged (r : PUnit × MemSt nD τ sig (Elt F)) (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(Pipeline.RDat.FramePost.arr_in h c 0 rfl).trans ((A_eq m c 0).trans (V_main_arg0 m c)),
    (Pipeline.RDat.FramePost.arr_in h c 1 rfl).trans ((A_eq m c 1).trans (V_main_arg1 m c))⟩

end Cert.QuantIdeal.Body

end
-- ==== Proof.QuantFinal.lean ====
/- THE QUANTISER'S FIVE ARRAYS after the run: every point's blocks, and the points that write back cover the arrays. -/
module

public import proofs.«01_k».proof.Proof.QuantBody
public import Idealize.ShloMosaic.Lib.Pipeline.ArrRel

@[expose] public section

set_option synthInstance.maxSize 4096
set_option maxRecDepth 65536

noncomputable section

namespace Cert.QuantIdeal.Body

open Cert.QuantIdeal Cert.QuantIdeal.Gen Cert.Attn Idealize.ShloMosaic Idealize.ShloMosaic.TcCoe Idealize.SL.Sem Idealize.ShloMosaic.Pipeline

variable {F : FTy → Type} [FloatOps F]
variable (m : (ℓ : Loc nD τ sig) → Buf (Elt F) ℓ) (c : Dev nD) (t : Fin cfg0.N)

theorem covers2 : (cfg0.win 2).Covers := by decide +kernel
theorem covers3 : (cfg0.win 3).Covers := by decide +kernel
theorem covers4 : (cfg0.win 4).Covers := by decide +kernel
theorem covers5 : (cfg0.win 5).Covers := by decide +kernel
theorem covers6 : (cfg0.win 6).Covers := by decide +kernel

/-- Where a point's blocks lie in their arrays. -/
theorem emb2 (y : S1x512x1024.Idx) :
    (win0_2.blk t).view.emb y = ix3 (pb t) ⟨512 * (pr t).val + (y 1).val, by have := (pr t).isLt; have : (y 1).val < 512 := (y 1).isLt; omega⟩ (y 2) := by
  have e := idx2 t
  have h0 : (y 0).val < 1 := (y 0).isLt
  funext a
  apply Fin.ext
  match a with
  | ⟨0, _⟩ => blk_simp [e]; try omega
  | ⟨1, _⟩ => blk_simp [e]; show (pr t).val * 512 + (y 1).val = 512 * (pr t).val + (y 1).val; omega
  | ⟨2, _⟩ => blk_simp [e]; rfl
theorem emb3 (y : S1x512x1024.Idx) :
    (win0_3.blk t).view.emb y = ix3 (pb t) ⟨512 * (pr t).val + (y 1).val, by have := (pr t).isLt; have : (y 1).val < 512 := (y 1).isLt; omega⟩ (y 2) := by
  have e := idx3 t
  have h0 : (y 0).val < 1 := (y 0).isLt
  funext a
  apply Fin.ext
  match a with
  | ⟨0, _⟩ => blk_simp [e]; try omega
  | ⟨1, _⟩ => blk_simp [e]; show (pr t).val * 512 + (y 1).val = 512 * (pr t).val + (y 1).val; omega
  | ⟨2, _⟩ => blk_simp [e]; rfl
theorem emb4 (y : S1x8x128x512.Idx) :
    (win0_4.blk t).view.emb y = ix4 (pb t) (y 1) (y 2) ⟨512 * (pr t).val + (y 3).val, by have := (pr t).isLt; have : (y 3).val < 512 := (y 3).isLt; omega⟩ := by
  have e := idx4 t
  have h0 : (y 0).val < 1 := (y 0).isLt
  funext a
  apply Fin.ext
  match a with
  | ⟨0, _⟩ => blk_simp [e]; try omega
  | ⟨1, _⟩ => blk_simp [e]; rfl
  | ⟨2, _⟩ => blk_simp [e]; rfl
  | ⟨3, _⟩ => blk_simp [e]; show (pr t).val * 512 + (y 3).val = 512 * (pr t).val + (y 3).val; omega
theorem emb5 (y : S1x8x32x128.Idx) : (win0_5.blk t).view.emb y = ix4 (pb t) (y 1) (y 2) (y 3) := by
  have e := idx5 t
  have h0 : (y 0).val < 1 := (y 0).isLt
  funext a
  apply Fin.ext
  match a with
  | ⟨0, _⟩ => blk_simp [e]; try omega
  | ⟨1, _⟩ => blk_simp [e]; rfl
  | ⟨2, _⟩ => blk_simp [e]; rfl
  | ⟨3, _⟩ => blk_simp [e]; rfl
theorem emb6 (y : S1x8x32x128.Idx) : (win0_6.blk t).view.emb y = ix4 (pb t) (y 1) (y 2) (y 3) := by
  have e := idx6 t
  have h0 : (y 0).val < 1 := (y 0).isLt
  funext a
  apply Fin.ext
  match a with
  | ⟨0, _⟩ => blk_simp [e]; try omega
  | ⟨1, _⟩ => blk_simp [e]; rfl
  | ⟨2, _⟩ => blk_simp [e]; rfl
  | ⟨3, _⟩ => blk_simp [e]; rfl

/-- At a point that writes a scales' buffer back every row is in place. -/
theorem rows_all (a : Vec F S8x4096x1024 .bf16) (hf : t.val % 8 = 7) (X : S1x8x32x128.Idx → Elt F .f32) (hX : Rows a t X) (y : S1x8x32x128.Idx) :
    X y = scBlk a t y := by
  have h := t_val t
  have h2 : (y 2).val < 32 := (y 2).isLt
  exact hX y (by omega)

/-- THE FIVE ARRAYS after the run. -/
theorem arrays (r : PUnit × MemSt nD τ sig (Elt F)) (h : RDat.FramePost (cfgs 0) (fun c => rdat m c) (V m) r) (c : Dev nD) :
    r.2.mem ((c : Thread nD τ).loc main_v0_0) = codeArr (kA m c)
      ∧ r.2.mem ((c : Thread nD τ).loc main_v0_1) = codeArr (vA m c)
      ∧ r.2.mem ((c : Thread nD τ).loc main_v0_2) = codeTArr (vA m c)
      ∧ r.2.mem ((c : Thread nD τ).loc main_v0_3) = scArr (kA m c)
      ∧ r.2.mem ((c : Thread nD τ).loc main_v0_4) = scArr (vA m c) := by
  obtain ⟨after, hl, harr⟩ := RDat.FramePost.exists_exact h c
  refine ⟨(harr 2).trans ?_, (harr 3).trans ?_, (harr 4).trans ?_, (harr 5).trans ?_, (harr 6).trans ?_⟩
  · refine Dat.arrAt_eq_of_covers ((rdat m c).withAfter after) 2 (codeArr (kA m c)) covers2 fun t hf y => ?_
    exact ((dat m c).toRRel_leaves rfl (hl 2 t hf) y).trans (congrArg (codeArr (kA m c)) (emb2 t y).symm)
  · refine Dat.arrAt_eq_of_covers ((rdat m c).withAfter after) 3 (codeArr (vA m c)) covers3 fun t hf y => ?_
    exact ((dat m c).toRRel_leaves rfl (hl 3 t hf) y).trans (congrArg (codeArr (vA m c)) (emb3 t y).symm)
  · refine Dat.arrAt_eq_of_covers ((rdat m c).withAfter after) 4 (codeTArr (vA m c)) covers4 fun t hf y => ?_
    exact ((dat m c).toRRel_leaves rfl (hl 4 t hf) y).trans (congrArg (codeTArr (vA m c)) (emb4 t y).symm)
  · refine Dat.arrAt_eq_of_covers ((rdat m c).withAfter after) 5 (scArr (kA m c)) covers5 fun t hf y => ?_
    exact (rows_all t (kA m c) ((flush0_5 t).1 hf) _ ((dat m c).toRRel_leaves rfl (hl 5 t hf)) y).trans (congrArg (scArr (kA m c)) (emb5 t y).symm)
  · refine Dat.arrAt_eq_of_covers ((rdat m c).withAfter after) 6 (scArr (vA m c)) covers6 fun t hf y => ?_
    exact (rows_all t (vA m c) ((flush0_6 t).1 hf) _ ((dat m c).toRRel_leaves rfl (hl 6 t hf)) y).trans (congrArg (scArr (vA m c)) (emb6 t y).symm)

/-- The run with its five arrays. -/
theorem run (ρ : Dev nD → PrngReg) : θ_run defs (onTc (τ := τ) (main (F := F))) ⟨m, fun _ => 0, ρ⟩ (fun r => ∀ c : Dev nD,
      r.2.mem ((c : Thread nD τ).loc main_v0_0) = codeArr (kA m c)
      ∧ r.2.mem ((c : Thread nD τ).loc main_v0_1) = codeArr (vA m c)
      ∧ r.2.mem ((c : Thread nD τ).loc main_v0_2) = codeTArr (vA m c)
      ∧ r.2.mem ((c : Thread nD τ).loc main_v0_3) = scArr (kA m c)
      ∧ r.2.mem ((c : Thread nD τ).loc main_v0_4) = scArr (vA m c)
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ?_) (run_main m ρ)
  obtain ⟨h0, h1, h2, h3, h4⟩ := arrays m r h.1 c
  exact ⟨h0, h1, h2, h3, h4, unchanged m r h.1 c⟩

/-- The quantiser runs, its arguments end unchanged and every semaphore at zero. -/
theorem frame (ρ : Dev nD → PrngReg) : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨unchanged m r h.1, h.2⟩) (run_main m ρ)

end Cert.QuantIdeal.Body

end
-- ==== Proof.QuantVal.lean ====
/- THE QUANTISER OF THE KERNEL read at an index: a block's codes, transposed codes and scale in the reference's terms, and its arrays. -/
module

public import proofs.«01_k».proof.Proof.QuantStores
public import proofs.«01_k».proof.Proof.KerFinal

@[expose] public section

set_option synthInstance.maxSize 4096
set_option maxRecDepth 65536

noncomputable section

namespace Cert.QuantIdeal.Body

open Cert.QuantIdeal Cert.QuantIdeal.Gen Cert.Attn Idealize.ShloMosaic Idealize.SL.Sem
open Cert.KernelIdeal.Body (mag Small scale_eq inv_eq)

/-- The kernel's exponent word of a block. -/
theorem pay3_apply (v : Vec Ideal S1x128x128 .bf16) (i j : Fin 1) : k0_pay3 v (ix2 i j) = kExp (mag v) := by
  have hm : (Finset.univ : Finset (Fin 128 × Fin 128)).fold max (Ideal.ofBits FTy.f32 0xFF800000#32)
      (fun x => FloatOps.absf (F := Ideal) (φ := .f32) (v (ix3 0 x.1 x.2))) = mag v := fold_max_eq_sup _ _
  pointwise [k0_pay3, k0_pay2]
  unfold kExp kCount
  rw [hm]

/-- The codes of a block. -/
theorem code_apply (v : Vec Ideal S1x128x128 .bf16) (h : Small (mag v)) (u : Fin 1) (i j : Fin 128) :
    qCode v (ix3 u i j) = clip (v (ix3 0 i j) * Ideal.exp2 (0 - rExp (mag v))) := by
  rw [← inv_eq _ h, ← pay3_apply v 0 0]
  pointwise [k0_pay5, k0_pay4, k0_pay2]
  rfl

/-- The transposed codes are computed from the same exponent. -/
theorem pay10_eq (v : Vec Ideal S1x128x128 .bf16) : k0_pay10 (k0_pay8 v) (k0_pay9 v) = k0_pay3 v := rfl

/-- The transposed codes of a block. -/
theorem codeT_apply (v : Vec Ideal S1x128x128 .bf16) (h : Small (mag v)) (u w : Fin 1) (i j : Fin 128) :
    qCodeT v (ix4 u w i j) = clip (v (ix3 0 j i) * Ideal.exp2 (0 - rExp (mag v))) := by
  rw [← inv_eq _ h, ← pay3_apply v 0 0, ← pay10_eq]
  pointwise [k0_pay15, k0_pay14, k0_pay11, k0_pay7]
  rfl

/-- The scale of a block. -/
theorem scale_apply (v : Vec Ideal S1x128x128 .bf16) (h : Small (mag v)) (a b c : Fin 1) (i : Fin 128) :
    qScale v (ix4 a b c i) = Ideal.exp2 (rExp (mag v)) := by
  rw [← scale_eq _ h, ← pay3_apply v 0 0]
  pointwise [k0_pay6]

/-- A block's largest magnitude. -/
theorem mag_blk (a : Vec Ideal S8x4096x1024 .bf16) (b h : Fin 8) (s : Fin 32) : mag (blkOf a b h s) = blkMag a b h s := rfl

/-- The array is finite: every entry is a real within the range of the input format. -/
def FiniteK (x : S8x4096x1024.Idx → EReal) : Prop := ∀ i, ∃ r : ℝ, x i = (r : EReal) ∧ |r| < (2 : ℝ) ^ (128 : ℤ)

theorem small_blkMag (x : S8x4096x1024.Idx → EReal) (hx : FiniteK x) (b h : Fin 8) (s : Fin 32) : Small (blkMag x b h s) := by
  obtain ⟨p, -, hp⟩ := Finset.exists_mem_eq_sup (Finset.univ : Finset (Fin 128 × Fin 128)) Finset.univ_nonempty
    fun p => max (x (ix3 b (row s p.1) (kcol h p.2))) (-x (ix3 b (row s p.1) (kcol h p.2)))
  obtain ⟨r, hr, hb⟩ := hx (ix3 b (row s p.1) (kcol h p.2))
  refine ⟨|r|, ?_, abs_nonneg r, hb⟩
  unfold blkMag
  rw [hp, hr, ← EReal.coe_neg]
  exact (EReal.coe_strictMono.monotone.map_max (a := r) (b := -r)).symm

/-- A block's largest magnitude is within the range. -/
theorem small_blk (a : Vec Ideal S8x4096x1024 .bf16) (ha : FiniteK a) (b h : Fin 8) (s : Fin 32) : Small (mag (blkOf a b h s)) := by
  rw [mag_blk]
  exact small_blkMag a ha b h s

/-- THE ARRAYS are the specification's. -/
theorem codeArr_eq (a : Vec Ideal S8x4096x1024 .bf16) (ha : FiniteK a) : codeArr a = kcArr a := by
  funext y
  exact code_apply (blkOf a (y 0) (hK (y 2)) (sOf (y 1))) (small_blk a ha _ _ _) 0 (lOf (y 1)) (lK (y 2))
theorem codeTArr_eq (a : Vec Ideal S8x4096x1024 .bf16) (ha : FiniteK a) : codeTArr a = ktArr a := by
  funext y
  exact codeT_apply (blkOf a (y 0) (y 1) (sOf (y 3))) (small_blk a ha _ _ _) 0 0 (y 2) (lOf (y 3))
theorem scArr_eq (a : Vec Ideal S8x4096x1024 .bf16) (ha : FiniteK a) : scArr a = kscArr a := by
  funext y
  exact scale_apply (blkOf a (y 0) (y 1) (y 2)) (small_blk a ha _ _ _) 0 0 0 (y 3)

end Cert.QuantIdeal.Body

end
-- ==== Proof.QuantPre.lean ====
/- WHAT THE QUANTISER'S PRECONDITION SAYS of its argument arrays: the keys and the values are finite. -/
module

public import proofs.«01_k».proof.Proof.Pre
public import proofs.«01_k».proof.Proof.QuantVal
public import proofs.«01_k».proof.Proof.Gen.Pre_quant_pre

@[expose] public section

set_option synthInstance.maxSize 4096
set_option maxRecDepth 65536

noncomputable section

namespace Cert.QuantIdeal.Body

open Cert.Attn Idealize.ShloMosaic Idealize.ShloMosaic.TcCoe Idealize.SL.Sem
open Cert.KernelIdeal.Body (one_iff ofBits_max)

attribute [local instance] Cert.Pre_quant_pre.Gen.facts

variable (a0 a1 : Vec Ideal Cert.Pre_quant_pre.S8x4096x1024 .bf16)

theorem finite_of_max (x : EReal) (hi : BitVec.ofBool (decide (max x (-x) ≤ Ideal.ofBits FTy.f32 0x7F7F0000#32)) = 1#1) :
    ∃ r : ℝ, x = (r : EReal) ∧ |r| < (2 : ℝ) ^ (128 : ℤ) := by
  rw [one_iff, ofBits_max] at hi
  induction x using EReal.rec with
  | bot => exact absurd (top_le_iff.1 (le_trans (le_max_right _ _) hi)) (EReal.coe_ne_top _)
  | top => exact absurd (top_le_iff.1 (le_trans (le_max_left _ _) hi)) (EReal.coe_ne_top _)
  | coe r =>
    refine ⟨r, rfl, ?_⟩
    have h1 : r ≤ 255 * (2 : ℝ) ^ (120 : ℤ) := EReal.coe_le_coe_iff.1 (le_trans (le_max_left _ _) hi)
    have h2 : -r ≤ 255 * (2 : ℝ) ^ (120 : ℤ) := EReal.coe_le_coe_iff.1 (le_trans (le_max_right _ _) hi)
    refine lt_of_le_of_lt (abs_le'.2 ⟨h1, h2⟩) ?_
    norm_num

theorem finite_k (h : (Cert.Pre_quant_pre.fn (F := Ideal) a0 a1).1 = fun _ => 1#1) : FiniteK a0 := fun i => finite_of_max (a0 i) (congrFun h i)
theorem finite_v (h : (Cert.Pre_quant_pre.fn (F := Ideal) a0 a1).2 = fun _ => 1#1) : FiniteK a1 := fun i => finite_of_max (a1 i) (congrFun h i)

end Cert.QuantIdeal.Body

end
-- ==== Proof.QuantRef.lean ====
/- THE QUANTISER'S REFERENCE: its exponent, codes and scales at an index, and its five arrays as functions of the argument arrays. -/
module

public import proofs.«01_k».proof.Proof.QuantSpec
public import proofs.«01_k».proof.Proof.RefExpo
public import proofs.«01_k».proof.Proof.Gen.QuantReferenceIdeal.Value
public import Idealize.ShloMosaic.Lib.ValueIdxRank6
public import Idealize.ShloMosaic.Lib.Pipeline.Value

@[expose] public section

set_option synthInstance.maxSize 4096
set_option maxRecDepth 65536

noncomputable section

namespace Cert.QuantReferenceIdeal.Body

open Cert.QuantReferenceIdeal Cert.QuantReferenceIdeal.Gen Cert.Attn Idealize.ShloMosaic Idealize.SL.Sem

variable (x : Vec Ideal S8x4096x1024 .bf16) (b h : Fin 8) (g : Fin 1) (s : Fin 32)

/-- The array by blocks and heads. -/
theorem pay1_apply (t d : Fin 128) : k0_pay1 x (ix6 b s t h g d) = x (ix3 b (row s t) (kcol h d)) := by
  unfold k0_pay1
  show shapeCast S8x32x128x8x1x128 x shapeCasts_S8x4096x1024_S8x32x128x8x1x128 (ix6 b s t h g d) = _
  refine shapeCast_apply x _ _ _ ?_
  rw [Shape.rowMajor_val_three, Shape.rowMajor_val_six]
  have hg := g.isLt
  show (b.val * 4096 + (128 * s.val + t.val)) * 1024 + (128 * h.val + d.val)
    = ((((b.val * 32 + s.val) * 128 + t.val) * 8 + h.val) * 1 + g.val) * 128 + d.val
  omega

/-- The largest magnitude of a block, as the reduction gives it. -/
theorem mag_eq : (Finset.univ.filter fun i : S8x32x128x8x1x128.Idx => reduces_S8x32x128x8x1x128_S8x32x8x1.drop i = ix4 b s h g).sup
    (fun i => max (k0_pay1 x i) (-k0_pay1 x i)) = blkMag x b h s := by
  apply le_antisymm
  · refine Finset.sup_le fun i hi => ?_
    have hd := (Finset.mem_filter.1 hi).2
    have e : i = ix6 b s (show Fin 128 from i 2) h g (show Fin 128 from i 5) := by
      have c0 := (reduces_S8x32x128x8x1x128_S8x32x8x1.drop_apply_val_of_eq i 0 0).symm
      have c1 := (reduces_S8x32x128x8x1x128_S8x32x8x1.drop_apply_val_of_eq i 1 1).symm
      have c3 := (reduces_S8x32x128x8x1x128_S8x32x8x1.drop_apply_val_of_eq i 2 3).symm
      have c4 := (reduces_S8x32x128x8x1x128_S8x32x8x1.drop_apply_val_of_eq i 3 4).symm
      rw [hd] at c0 c1 c3 c4
      funext a
      apply Fin.ext
      match a with
      | ⟨0, _⟩ => exact c0
      | ⟨1, _⟩ => exact c1
      | ⟨2, _⟩ => rfl
      | ⟨3, _⟩ => exact c3
      | ⟨4, _⟩ => exact c4
      | ⟨5, _⟩ => rfl
    rw [e, pay1_apply x b h g s]
    exact Finset.le_sup (f := fun p : Fin 128 × Fin 128 => max (x (ix3 b (row s p.1) (kcol h p.2))) (-x (ix3 b (row s p.1) (kcol h p.2))))
      (Finset.mem_univ ((show Fin 128 from i 2), (show Fin 128 from i 5)))
  · refine Finset.sup_le fun p _ => ?_
    rw [← pay1_apply x b h g s]
    refine Finset.le_sup (f := fun i => max (k0_pay1 x i) (-k0_pay1 x i)) (Finset.mem_filter.2 ⟨Finset.mem_univ _, ?_⟩)
    funext a
    apply Fin.ext
    match a with
    | ⟨0, _⟩ => exact reduces_S8x32x128x8x1x128_S8x32x8x1.drop_apply_val_of_eq _ 0 0
    | ⟨1, _⟩ => exact reduces_S8x32x128x8x1x128_S8x32x8x1.drop_apply_val_of_eq _ 1 1
    | ⟨2, _⟩ => exact reduces_S8x32x128x8x1x128_S8x32x8x1.drop_apply_val_of_eq _ 2 3
    | ⟨3, _⟩ => exact reduces_S8x32x128x8x1x128_S8x32x8x1.drop_apply_val_of_eq _ 3 4

/-- The largest magnitudes of the blocks. -/
def magVec (x : Vec Ideal S8x4096x1024 .bf16) : FVec Ideal S8x32x8x1 .f32 :=
  multiReduction .maximumf [2, 5] S8x32x8x1 (absf (k0_pay1 x)) 0xFF800000#32 reduces_S8x32x128x8x1x128_S8x32x8x1 (.inl rfl) rfl

theorem magVec_apply : magVec x (ix4 b s h g) = blkMag x b h s :=
  ((multiReduction_maximumf_eq_fold _ _ _ _ _ _).trans (fold_max_eq_sup _ _)).trans (mag_eq x b h g s)

theorem pay2_eq : k0_pay2 x = expoVec (mulf (shapeCast S8x32x1x8x1x1 (magVec x) shapeCasts_S8x32x8x1_S8x32x1x8x1x1)
    (broadcast S8x32x1x8x1x1 (Scalar.ofBits .f32 0x3B124925#32))) := rfl

theorem cast_mag (w : FVec Ideal S8x32x8x1 .f32) :
    shapeCast S8x32x1x8x1x1 w shapeCasts_S8x32x8x1_S8x32x1x8x1x1 (ix6 b s 0 h g 0) = w (ix4 b s h g) := by
  refine shapeCast_apply w _ _ (ix4 b s h g) ?_
  rw [Shape.rowMajor_val_four, Shape.rowMajor_val_six]
  show ((b.val * 32 + s.val) * 8 + h.val) * 1 + g.val
    = ((((b.val * 32 + s.val) * 1 + 0) * 8 + h.val) * 1 + g.val) * 1 + 0
  omega

/-- The exponent of a block. -/
theorem pay2_apply : k0_pay2 x (ix6 b s 0 h g 0) = rExp (blkMag x b h s) := by
  rw [pay2_eq]
  refine expoVec_apply _ _ _ ?_
  rw [← magVec_apply x b h g s, mulf_at, cast_mag, broadcast_at]

theorem bcast_block (w : FVec Ideal S8x32x1x8x1x1 .f32) (t d : Fin 128) :
    broadcastTo S8x32x128x8x1x128 w broadcasts_S8x32x1x8x1x1_S8x32x128x8x1x128 (ix6 b s t h 0 d) = w (ix6 b s 0 h 0 0) := by
  refine broadcastTo_apply w _ _ (ix6 b s 0 h 0 0) fun a => ?_
  match a with
  | ⟨0, _⟩ => rfl
  | ⟨1, _⟩ => rfl
  | ⟨2, _⟩ => rfl
  | ⟨3, _⟩ => rfl
  | ⟨4, _⟩ => rfl
  | ⟨5, _⟩ => rfl

/-- The codes of a block. -/
theorem pay3_apply (t d : Fin 128) : k0_pay3 x (ix6 b s t h 0 d) = blkCode x b h s t d := by
  unfold k0_pay3
  rw [clip_at, mulf_at, bcast_block, exp2_at, subf_at, broadcast_at, ofBits_zero, pay2_apply, pay1_apply]
  rfl

/-- The values' exponents and codes are the same functions as the keys'. -/
theorem pay9_eq : k0_pay9 (k0_pay7 x) (k0_pay8 x) (Scalar.ofBits .f32 0x40000000#32) = k0_pay2 x := rfl
theorem pay10_eq : k0_pay10 (k0_pay5 x) (k0_pay7 x) (k0_pay8 x) (Scalar.ofBits .f32 0x40000000#32) = k0_pay3 x := rfl

theorem cast_codes (w : FVec Ideal S8x32x128x8x1x128 .fp8e4m3) (t d : Fin 128) :
    shapeCast S8x4096x1024 w shapeCasts_S8x32x128x8x1x128_S8x4096x1024 (ix3 b (row s t) (kcol h d)) = w (ix6 b s t h 0 d) := by
  refine shapeCast_apply w _ _ _ ?_
  rw [Shape.rowMajor_val_three, Shape.rowMajor_val_six]
  show ((((b.val * 32 + s.val) * 128 + t.val) * 8 + h.val) * 1 + 0) * 128 + d.val
    = (b.val * 4096 + (128 * s.val + t.val)) * 1024 + (128 * h.val + d.val)
  omega

theorem cast_heads (w : FVec Ideal S8x32x128x8x1x128 .fp8e4m3) (t d : Fin 128) :
    shapeCast S8x4096x8x128 w shapeCasts_S8x32x128x8x1x128_S8x4096x8x128 (ix4 b (row s t) h d) = w (ix6 b s t h 0 d) := by
  refine shapeCast_apply w _ _ _ ?_
  rw [Shape.rowMajor_val_four, Shape.rowMajor_val_six]
  show ((((b.val * 32 + s.val) * 128 + t.val) * 8 + h.val) * 1 + 0) * 128 + d.val
    = ((b.val * 4096 + (128 * s.val + t.val)) * 8 + h.val) * 128 + d.val
  omega

theorem transpose_codes (w : FVec Ideal S8x4096x8x128 .fp8e4m3) (r : Fin 4096) (d : Fin 128) :
    transpose S8x8x128x4096 [0, 2, 3, 1] w transposes_S8x4096x8x128_p0_2_3_1_S8x8x128x4096 (ix4 b h d r) = w (ix4 b r h d) := by
  refine transpose_apply _ w _ _ (ix4 b r h d) fun b => ?_
  match b with
  | ⟨0, _⟩ => rfl
  | ⟨1, _⟩ => rfl
  | ⟨2, _⟩ => rfl
  | ⟨3, _⟩ => rfl

theorem cast_scales (w : FVec Ideal S8x32x1x8x1x1 .f32) :
    shapeCast S8x32x8 w shapeCasts_S8x32x1x8x1x1_S8x32x8 (ix3 b s h) = w (ix6 b s 0 h 0 0) := by
  refine shapeCast_apply w _ _ (ix6 b s 0 h 0 0) ?_
  rw [Shape.rowMajor_val_three, Shape.rowMajor_val_six]
  show ((((b.val * 32 + s.val) * 1 + 0) * 8 + h.val) * 1 + 0) * 1 + 0 = (b.val * 32 + s.val) * 8 + h.val
  omega

theorem transpose_scales (w : FVec Ideal S8x32x8 .f32) :
    transpose S8x8x32 [0, 2, 1] w transposes_S8x32x8_p0_2_1_S8x8x32 (ix3 b h s) = w (ix3 b s h) := by
  refine transpose_apply _ w _ _ (ix3 b s h) fun b => ?_
  match b with
  | ⟨0, _⟩ => rfl
  | ⟨1, _⟩ => rfl
  | ⟨2, _⟩ => rfl

theorem cast_lane (w : FVec Ideal S8x8x32 .f32) :
    shapeCast S8x8x32x1 w shapeCasts_S8x8x32_S8x8x32x1 (ix4 b h s 0) = w (ix3 b h s) := by
  refine shapeCast_apply w _ _ (ix3 b h s) ?_
  rw [Shape.rowMajor_val_three, Shape.rowMajor_val_four]
  show (b.val * 8 + h.val) * 32 + s.val = ((b.val * 8 + h.val) * 32 + s.val) * 1 + 0
  omega

theorem bcast_lane (w : FVec Ideal S8x8x32x1 .f32) (l : Fin 128) :
    broadcastTo S8x8x32x128 w broadcasts_S8x8x32x1_S8x8x32x128 (ix4 b h s l) = w (ix4 b h s 0) := by
  refine broadcastTo_apply w _ _ (ix4 b h s 0) fun a => ?_
  match a with
  | ⟨0, _⟩ => rfl
  | ⟨1, _⟩ => rfl
  | ⟨2, _⟩ => rfl
  | ⟨3, _⟩ => rfl

theorem cast_same (w : FVec Ideal S8x8x32x1 .f32) :
    shapeCast S8x8x32x1 w shapeCasts_S8x8x32x1_S8x8x32x1 (ix4 b h s 0) = w (ix4 b h s 0) :=
  shapeCast_apply w _ _ (ix4 b h s 0) rfl

/-- The scales over their lanes. -/
theorem pay14_apply (l : Fin 128) : k0_pay14 (k0_pay4 x) (ix4 b h s l) = blkScale x b h s := by
  unfold k0_pay14 blkScale
  rw [bcast_lane, cast_same, cast_lane, transpose_scales, cast_scales]
  unfold k0_pay4
  rw [exp2_at, pay2_apply]

theorem pay15_eq : k0_pay15 (k0_pay7 x) (k0_pay8 x) (Scalar.ofBits .f32 0x40000000#32) = k0_pay14 (k0_pay4 x) := rfl

/-! ## The five arrays -/

variable (a0 a1 : Vec Ideal S8x4096x1024 .bf16)

/-- An index of an array by its block, row, head and column. -/
theorem idx_split (i : S8x4096x1024.Idx) : i = ix3 (i 0) (row (sOf (i 1)) (lOf (i 1))) (kcol (hK (i 2)) (lK (i 2))) :=
  (ix3_eta i).symm.trans (congrArg₂ (ix3 (show Fin 8 from i 0)) (row_of (i 1)).symm (kcol_of (i 2)).symm)

theorem codes_eq : shapeCast S8x4096x1024 (k0_pay3 x) shapeCasts_S8x32x128x8x1x128_S8x4096x1024 = kcArr x := by
  funext i
  exact (congrArg (shapeCast S8x4096x1024 (k0_pay3 x) shapeCasts_S8x32x128x8x1x128_S8x4096x1024) (idx_split i)).trans
    ((cast_codes _ _ _ _ _ _).trans (pay3_apply x _ _ _ _ _))

theorem codesT_eq : transpose S8x8x128x4096 [0, 2, 3, 1] (shapeCast S8x4096x8x128 (k0_pay3 x) shapeCasts_S8x32x128x8x1x128_S8x4096x8x128)
    transposes_S8x4096x8x128_p0_2_3_1_S8x8x128x4096 = ktArr x := by
  funext i
  have e : i = ix4 (i 0) (i 1) (i 2) (row (sOf (i 3)) (lOf (i 3))) :=
    (ix4_eta i).symm.trans (congrArg (ix4 (show Fin 8 from i 0) (show Fin 8 from i 1) (show Fin 128 from i 2)) (row_of (i 3)).symm)
  exact (congrArg (transpose S8x8x128x4096 [0, 2, 3, 1] (shapeCast S8x4096x8x128 (k0_pay3 x) shapeCasts_S8x32x128x8x1x128_S8x4096x8x128)
    transposes_S8x4096x8x128_p0_2_3_1_S8x8x128x4096) e).trans
    ((transpose_codes _ _ _ _ _).trans ((cast_heads _ _ _ _ _ _).trans (pay3_apply x _ _ _ _ _)))

theorem scales_eq : k0_pay14 (k0_pay4 x) = kscArr x := by
  funext i
  exact (congrArg (k0_pay14 (k0_pay4 x)) (ix4_eta i).symm).trans (pay14_apply x _ _ _ _)

theorem ld_eq : View.ld a1 r0_0 = a1 := View.ld_unit_zero (S := S8x4096x1024) Cert.QuantReferenceIdeal.Value.hz0 _ a1
theorem pay16_eq : k0_pay16 a0 a1 = k0_pay5 a1 := by unfold k0_pay16; rw [ld_eq]
theorem pay17_eq : k0_pay17 a0 a1 = k0_pay7 a1 := by unfold k0_pay17; rw [ld_eq]
theorem pay18_eq : k0_pay18 a0 a1 = k0_pay8 a1 := by unfold k0_pay18; rw [ld_eq]

theorem G2_eq : Cert.QuantReferenceIdeal.Value.G2 a0 a1 = kcArr a0 := codes_eq a0
theorem G3_eq : Cert.QuantReferenceIdeal.Value.G3 a0 a1 = kcArr a1 := by
  unfold Cert.QuantReferenceIdeal.Value.G3 k0_pay12
  rw [pay16_eq, pay17_eq, pay18_eq, pay10_eq]
  exact codes_eq a1
theorem G4_eq : Cert.QuantReferenceIdeal.Value.G4 a0 a1 = ktArr a1 := by
  unfold Cert.QuantReferenceIdeal.Value.G4 k0_pay13
  rw [pay16_eq, pay17_eq, pay18_eq, pay10_eq]
  exact codesT_eq a1
theorem G5_eq : Cert.QuantReferenceIdeal.Value.G5 a0 a1 = kscArr a0 := scales_eq a0
theorem G6_eq : Cert.QuantReferenceIdeal.Value.G6 a0 a1 = kscArr a1 := by
  unfold Cert.QuantReferenceIdeal.Value.G6
  rw [pay17_eq, pay18_eq, pay15_eq]
  exact scales_eq a1

end Cert.QuantReferenceIdeal.Body

end
-- ==== Proof.lean ====
/- THE CLAIM: the attention call and its reference, the quantiser's call and its reference, frames and equal results. The mathematics is in
   the modules under `Proof/`: `KerFinal` reads the attention call's result arrays, `RefArray` its reference's, `Pre` its precondition;
   `QuantFinal` and `QuantVal` read the quantiser's, `QuantRef` its reference's, `QuantPre` its precondition; here they are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Gen.KernelIdeal.Value
public import proofs.«01_k».proof.Proof.Gen.ReferenceIdeal.Value
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.Pre_quant_pre
public import proofs.«01_k».proof.Proof.Gen.QuantReferenceIdeal.Value
public import proofs.«01_k».proof.Proof.Pre
public import proofs.«01_k».proof.Proof.KerFinal
public import proofs.«01_k».proof.Proof.RefArray
public import proofs.«01_k».proof.Proof.QuantFrame
public import proofs.«01_k».proof.Proof.QuantFinal
public import proofs.«01_k».proof.Proof.QuantPre
public import proofs.«01_k».proof.Proof.QuantRef
public import Idealize.ShloMosaic.Adequacy
public import Idealize.ShloMosaic.Init

@[expose] public section

noncomputable section

namespace Cert.Proof

open Idealize.ShloMosaic Idealize.SL.Sem Cert.Attn

attribute [local instance] Cert.KernelIdeal.Gen.facts Cert.ReferenceIdeal.Gen.facts Cert.Pre_pre.Gen.facts
attribute [local instance] Cert.QuantIdeal.Gen.facts Cert.QuantReferenceIdeal.Gen.facts Cert.Pre_quant_pre.Gen.facts

/-- On arguments that satisfy the precondition the kernel and the reference end with equal results: the attention output, the queries' codes
    and their scales. -/
theorem same_results : Cert.algebraic_KernelIdeal_ReferenceIdeal_pre_pre := by
  intro m g m' g' hpre hargs
  refine ⟨fun c => yArr (Cert.KernelIdeal.Body.xA m c) (Cert.KernelIdeal.Body.kA m c) (Cert.KernelIdeal.Body.vA m c)
      (Cert.KernelIdeal.Body.ksA m c) (Cert.KernelIdeal.Body.vsA m c),
    fun c => cArr (Cert.KernelIdeal.Body.xA m c), fun c => sArr (Cert.KernelIdeal.Body.xA m c), ?_, ?_⟩
  · refine (θ_run _ _ _).mono (fun r h c => ?_) (Cert.KernelIdeal.Value.run_blocks m g)
    obtain ⟨h5, h6, h7, hk⟩ := h c
    obtain ⟨p1, p2, p3⟩ := hpre c
    have hx := Cert.KernelIdeal.Body.finite_of_pre _ _ _ _ _ p1
    exact ⟨h5.trans (Cert.KernelIdeal.Body.arr5 m c hx (Cert.KernelIdeal.Body.nonneg_of_pre _ _ _ _ _ p3)
        (Cert.KernelIdeal.Body.lanes_of_pre _ _ _ _ _ p2)),
      h6.trans (Cert.KernelIdeal.Body.arr6 m c hx), h7.trans (Cert.KernelIdeal.Body.arr7 m c hx), hk⟩
  · refine (θ_run _ _ _).mono (fun r h c => ?_) (Cert.ReferenceIdeal.Value.run m' g')
    obtain ⟨h5, h6, h7, hk⟩ := h c
    obtain ⟨e0, e1, e2, e3, e4⟩ := hargs c
    rw [Cert.ReferenceIdeal.Body.G5_eq] at h5
    rw [Cert.ReferenceIdeal.Body.G6_eq] at h6
    rw [Cert.ReferenceIdeal.Body.G7_eq] at h7
    refine ⟨h5.trans ?_, h6.trans ?_, h7.trans ?_, hk⟩
    · exact congr (congr (congr (congr (congrArg yArr e0) e1) e2) e3) e4
    · exact congrArg cArr e0
    · exact congrArg sArr e0

/-- On finite keys and values the quantiser and its reference end with equal results: the keys' codes, the values' codes, the values' codes
    transposed, and the scales of both. -/
theorem same_codes : Cert.algebraic_QuantIdeal_QuantReferenceIdeal_pre_quant_pre := by
  intro m g m' g' hpre hargs
  refine ⟨fun c => kcArr (Cert.QuantIdeal.Body.kA m c), fun c => kcArr (Cert.QuantIdeal.Body.vA m c), fun c => ktArr (Cert.QuantIdeal.Body.vA m c),
    fun c => kscArr (Cert.QuantIdeal.Body.kA m c), fun c => kscArr (Cert.QuantIdeal.Body.vA m c), ?_, ?_⟩
  · refine (θ_run _ _ _).mono (fun r h c => ?_) (Cert.QuantIdeal.Body.run m g)
    obtain ⟨h0, h1, h2, h3, h4, hk⟩ := h c
    obtain ⟨p0, p1⟩ := hpre c
    have fk := Cert.QuantIdeal.Body.finite_k _ _ p0
    have fv := Cert.QuantIdeal.Body.finite_v _ _ p1
    exact ⟨h0.trans (Cert.QuantIdeal.Body.codeArr_eq _ fk), h1.trans (Cert.QuantIdeal.Body.codeArr_eq _ fv),
      h2.trans (Cert.QuantIdeal.Body.codeTArr_eq _ fv), h3.trans (Cert.QuantIdeal.Body.scArr_eq _ fk),
      h4.trans (Cert.QuantIdeal.Body.scArr_eq _ fv), hk⟩
  · refine (θ_run _ _ _).mono (fun r h c => ?_) (Cert.QuantReferenceIdeal.Value.run m' g')
    obtain ⟨h0, h1, h2, h3, h4, hk⟩ := h c
    obtain ⟨e0, e1⟩ := hargs c
    rw [Cert.QuantReferenceIdeal.Body.G2_eq] at h0
    rw [Cert.QuantReferenceIdeal.Body.G3_eq] at h1
    rw [Cert.QuantReferenceIdeal.Body.G4_eq] at h2
    rw [Cert.QuantReferenceIdeal.Body.G5_eq] at h3
    rw [Cert.QuantReferenceIdeal.Body.G6_eq] at h4
    exact ⟨h0.trans (congrArg kcArr e0), h1.trans (congrArg kcArr e1), h2.trans (congrArg ktArr e1), h3.trans (congrArg kscArr e0),
      h4.trans (congrArg kscArr e1), hk⟩

/-- The claim: the frames, the named constant, and equal results of both calls. -/
theorem claim : Cert.Claim :=
  ⟨Cert.Kernel.Gen.facts, Cert.KernelIdeal.Gen.facts, Cert.ReferenceIdeal.Gen.facts,
    Cert.Quant.Gen.facts, Cert.QuantIdeal.Gen.facts, Cert.QuantReferenceIdeal.Gen.facts, Cert.Pre_pre.Gen.facts, Cert.Pre_quant_pre.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Quant.Body.frame m ρ,
    fun m ρ _ => Cert.QuantIdeal.Body.frame m ρ,
    fun m ρ _ => Cert.QuantIdeal.Body.frame m ρ,
    fun m ρ _ => Cert.QuantReferenceIdeal.Gen.frame m ρ,
    fun m ρ _ => Cert.QuantReferenceIdeal.Gen.frame m ρ,
    IdealRules.named_const.statement Cert.KernelIdeal.κ "log2e" .f32 0x3FB8AA3B#32 (((Real.log 2)⁻¹ : ℝ) : EReal) rfl,
    same_results,
    trivial,
    same_codes⟩

end Cert.Proof

end
